-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "q_scale" .f32 0x3DD53B95#32 (((Real.sqrt 192)⁻¹ * (Real.log 2)⁻¹ : ℝ) : EReal)
  ∧ IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v98)) (v2 : (c : Dev Cert.KernelIdeal.nD) → Buf (Elt Ideal) ((c.tc : Thread Cert.KernelIdeal.nD Cert.KernelIdeal.τ).loc Cert.KernelIdeal.main_v99_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v98) = v1 c
          ∧ r.2.mem ((c.tc : Thread Cert.KernelIdeal.nD Cert.KernelIdeal.τ).loc Cert.KernelIdeal.main_v99_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_v275) = v1 c
          ∧ r.2.mem ((c.tc : Thread Cert.ReferenceIdeal.nD Cert.ReferenceIdeal.τ).loc Cert.ReferenceIdeal.main_v280) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048x1024 : Shape := ⟨3, ![32, 2048, 1024]⟩
abbrev S32x256x1024 : Shape := ⟨3, ![32, 256, 1024]⟩
abbrev S1x1024 : Shape := ⟨2, ![1, 1024]⟩
abbrev S1x1024x9952 : Shape := ⟨3, ![1, 1024, 9952]⟩
abbrev S1x2x8 : Shape := ⟨3, ![1, 2, 8]⟩
abbrev S1x384 : Shape := ⟨2, ![1, 384]⟩
abbrev S1x384x1536 : Shape := ⟨3, ![1, 384, 1536]⟩
abbrev S1x256 : Shape := ⟨2, ![1, 256]⟩
abbrev S1x256x2048 : Shape := ⟨3, ![1, 256, 2048]⟩
abbrev S1x1024x1024 : Shape := ⟨3, ![1, 1024, 1024]⟩
abbrev S1x512x1024 : Shape := ⟨3, ![1, 512, 1024]⟩
abbrev S1024 : Shape := ⟨1, ![1024]⟩
abbrev S65536x1024 : Shape := ⟨2, ![65536, 1024]⟩
abbrev S_ : Shape := ⟨0, ![]⟩
abbrev S1x5x3072 : Shape := ⟨3, ![1, 5, 3072]⟩
abbrev S1x128 : Shape := ⟨2, ![1, 128]⟩
abbrev S1024x9952 : Shape := ⟨2, ![1024, 9952]⟩
abbrev S1024x3072 : Shape := ⟨2, ![1024, 3072]⟩
abbrev S1024x32 : Shape := ⟨2, ![1024, 32]⟩
abbrev S1024x1024 : Shape := ⟨2, ![1024, 1024]⟩
abbrev S1024x384 : Shape := ⟨2, ![1024, 384]⟩
abbrev S1024x320 : Shape := ⟨2, ![1024, 320]⟩
abbrev S1024x512 : Shape := ⟨2, ![1024, 512]⟩
abbrev S1x1024x3072 : Shape := ⟨3, ![1, 1024, 3072]⟩
abbrev S2x1024x3072 : Shape := ⟨3, ![2, 1024, 3072]⟩
abbrev S1024x256 : Shape := ⟨2, ![1024, 256]⟩
abbrev S1024x64 : Shape := ⟨2, ![1024, 64]⟩
abbrev S1024x128 : Shape := ⟨2, ![1024, 128]⟩
abbrev S1024x96 : Shape := ⟨2, ![1024, 96]⟩
abbrev S1024x896 : Shape := ⟨2, ![1024, 896]⟩
abbrev S384x1536 : Shape := ⟨2, ![384, 1536]⟩
abbrev S384x8x192 : Shape := ⟨3, ![384, 8, 192]⟩
abbrev S384x8x128 : Shape := ⟨3, ![384, 8, 128]⟩
abbrev S384x8x64 : Shape := ⟨3, ![384, 8, 64]⟩
abbrev S384x8x32 : Shape := ⟨3, ![384, 8, 32]⟩
abbrev S384x8x256 : Shape := ⟨3, ![384, 8, 256]⟩
abbrev S384x2048 : Shape := ⟨2, ![384, 2048]⟩
abbrev S256x2048 : Shape := ⟨2, ![256, 2048]⟩
abbrev S256x8x256 : Shape := ⟨3, ![256, 8, 256]⟩
abbrev S256x8x128 : Shape := ⟨3, ![256, 8, 128]⟩
abbrev S256x1024 : Shape := ⟨2, ![256, 1024]⟩
abbrev S384 : Shape := ⟨1, ![384]⟩
abbrev S256 : Shape := ⟨1, ![256]⟩
abbrev S2x8 : Shape := ⟨2, ![2, 8]⟩
abbrev S1x16 : Shape := ⟨2, ![1, 16]⟩
abbrev S1x112 : Shape := ⟨2, ![1, 112]⟩
abbrev S5x3072 : Shape := ⟨2, ![5, 3072]⟩
abbrev S128 : Shape := ⟨1, ![128]⟩
abbrev S512x1024 : Shape := ⟨2, ![512, 1024]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S2x65536x3072 : Shape := ⟨3, ![2, 65536, 3072]⟩
abbrev S1x512x3072 : Shape := ⟨3, ![1, 512, 3072]⟩
abbrev S512 : Shape := ⟨1, ![512]⟩
abbrev S512x1 : Shape := ⟨2, ![512, 1]⟩
abbrev S512x3072 : Shape := ⟨2, ![512, 3072]⟩
abbrev S65536x2048 : Shape := ⟨2, ![65536, 2048]⟩
abbrev S65536x128 : Shape := ⟨2, ![65536, 128]⟩
abbrev S512x128 : Shape := ⟨2, ![512, 128]⟩
abbrev S512x2048 : Shape := ⟨2, ![512, 2048]⟩
abbrev S512x896 : Shape := ⟨2, ![512, 896]⟩
abbrev S512x384 : Shape := ⟨2, ![512, 384]⟩
abbrev S512x256 : Shape := ⟨2, ![512, 256]⟩
abbrev S2048x256 : Shape := ⟨2, ![2048, 256]⟩
abbrev S1x2048x128 : Shape := ⟨3, ![1, 2048, 128]⟩
abbrev S256x256 : Shape := ⟨2, ![256, 256]⟩
abbrev S256x1 : Shape := ⟨2, ![256, 1]⟩
abbrev S256x128 : Shape := ⟨2, ![256, 128]⟩
abbrev S1x256x128 : Shape := ⟨3, ![1, 256, 128]⟩
abbrev S1x256x1024 : Shape := ⟨3, ![1, 256, 1024]⟩
abbrev S256x3072 : Shape := ⟨2, ![256, 3072]⟩
abbrev S256x512 : Shape := ⟨2, ![256, 512]⟩

abbrev nBuf : Space → Nat
  | .hbm => 134
  | .vmem => 64
  | .smem => 0
  | _ => 0

abbrev hbmTy0_0 (i : Nat) : BufTy := match i % 128 with
  | 0 => ⟨S32x2048x1024, .f32⟩
  | 1 => ⟨S32x256x1024, .f32⟩
  | 2 => ⟨S1x1024, .f32⟩
  | 3 => ⟨S1x1024x9952, .f32⟩
  | 4 => ⟨S1x2x8, .f32⟩
  | 5 => ⟨S1x2x8, .f32⟩
  | 6 => ⟨S1x384, .f32⟩
  | 7 => ⟨S1x384x1536, .f32⟩
  | 8 => ⟨S1x256, .f32⟩
  | 9 => ⟨S1x256x2048, .f32⟩
  | 10 => ⟨S1x1024, .f32⟩
  | 11 => ⟨S1x1024x1024, .f32⟩
  | 12 => ⟨S1x1024x1024, .f32⟩
  | 13 => ⟨S1x1024x1024, .f32⟩
  | 14 => ⟨S1x512x1024, .f32⟩
  | 15 => ⟨S1x1024x1024, .f32⟩
  | 16 => ⟨S1024, .f32⟩
  | 17 => ⟨S65536x1024, .bf16⟩
  | 18 => ⟨S_, .f32⟩
  | 19 => ⟨S1x5x3072, .f32⟩
  | 20 => ⟨S_, .f32⟩
  | 21 => ⟨S1x128, .f32⟩
  | 22 => ⟨S1024x9952, .f32⟩
  | 23 => ⟨S1024x3072, .f32⟩
  | 24 => ⟨S1024x32, .f32⟩
  | 25 => ⟨S1024x1024, .f32⟩
  | 26 => ⟨S1024x384, .f32⟩
  | 27 => ⟨S1024x320, .f32⟩
  | 28 => ⟨S1024x1024, .f32⟩
  | 29 => ⟨S1024x512, .f32⟩
  | 30 => ⟨S1024x512, .f32⟩
  | 31 => ⟨S1024x3072, .f32⟩
  | 32 => ⟨S1024x3072, .f32⟩
  | 33 => ⟨S1x1024x3072, .f32⟩
  | 34 => ⟨S1x1024x3072, .f32⟩
  | 35 => ⟨S2x1024x3072, .f32⟩
  | 36 => ⟨S2x1024x3072, .bf16⟩
  | 37 => ⟨S1024x256, .f32⟩
  | 38 => ⟨S1024x64, .f32⟩
  | 39 => ⟨S1024x32, .f32⟩
  | 40 => ⟨S1024x32, .f32⟩
  | 41 => ⟨S1024x128, .f32⟩
  | 42 => ⟨S_, .f32⟩
  | 43 => ⟨S1024x96, .f32⟩
  | 44 => ⟨S1024x896, .f32⟩
  | 45 => ⟨S1024x896, .bf16⟩
  | 46 => ⟨S384x1536, .f32⟩
  | 47 => ⟨S384x8x192, .f32⟩
  | 48 => ⟨S384x8x128, .f32⟩
  | 49 => ⟨S384x8x64, .f32⟩
  | 50 => ⟨S384x8x32, .f32⟩
  | 51 => ⟨S384x8x32, .f32⟩
  | 52 => ⟨S384x8x128, .f32⟩
  | 53 => ⟨S384x8x256, .f32⟩
  | 54 => ⟨S384x2048, .f32⟩
  | 55 => ⟨S384x2048, .bf16⟩
  | 56 => ⟨S256x2048, .f32⟩
  | 57 => ⟨S256x8x256, .f32⟩
  | 58 => ⟨S256x8x128, .f32⟩
  | 59 => ⟨S256x1024, .f32⟩
  | 60 => ⟨S256x8x128, .f32⟩
  | 61 => ⟨S256x1024, .f32⟩
  | 62 => ⟨S256x2048, .f32⟩
  | 63 => ⟨S256x2048, .bf16⟩
  | 64 => ⟨S1024, .f32⟩
  | 65 => ⟨S1x1024, .f32⟩
  | 66 => ⟨S1024x3072, .bf16⟩
  | 67 => ⟨S384, .f32⟩
  | 68 => ⟨S1x384, .f32⟩
  | 69 => ⟨S256, .f32⟩
  | 70 => ⟨S1x256, .f32⟩
  | 71 => ⟨S2x8, .f32⟩
  | 72 => ⟨S1x16, .f32⟩
  | 73 => ⟨S_, .f32⟩
  | 74 => ⟨S1x112, .f32⟩
  | 75 => ⟨S1x128, .f32⟩
  | 76 => ⟨S2x8, .f32⟩
  | 77 => ⟨S1x16, .f32⟩
  | 78 => ⟨S_, .f32⟩
  | 79 => ⟨S1x112, .f32⟩
  | 80 => ⟨S1x128, .f32⟩
  | 81 => ⟨S5x3072, .f32⟩
  | 82 => ⟨S128, .f32⟩
  | 83 => ⟨S1x128, .f32⟩
  | 84 => ⟨S1024, .f32⟩
  | 85 => ⟨S1x1024, .f32⟩
  | 86 => ⟨S1024x1024, .f32⟩
  | 87 => ⟨S1024x1024, .bf16⟩
  | 88 => ⟨S1024x1024, .f32⟩
  | 89 => ⟨S1024x1024, .bf16⟩
  | 90 => ⟨S1024x1024, .f32⟩
  | 91 => ⟨S1024x1024, .bf16⟩
  | 92 => ⟨S512x1024, .f32⟩
  | 93 => ⟨S512x1024, .bf16⟩
  | 94 => ⟨S1024x1024, .f32⟩
  | 95 => ⟨S1024x1024, .bf16⟩
  | 96 => ⟨S1x1024, .f32⟩
  | 97 => ⟨S65536x1024, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S2048, .i32⟩
  | 107 => ⟨S2048, .f32⟩
  | 108 => ⟨S2048x1, .f32⟩
  | 109 => ⟨S1x32, .f32⟩
  | 110 => ⟨S2048x32, .f32⟩
  | 111 => ⟨S2048x32, .f32⟩
  | 112 => ⟨S2048x32, .f32⟩
  | 113 => ⟨S2048x32, .f32⟩
  | 114 => ⟨S2048x32, .f32⟩
  | 115 => ⟨S2048x32, .f32⟩
  | 116 => ⟨S2048x128, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S2048x128, .f32⟩
  | 125 => ⟨S2048x128, .f32⟩
  | 126 => ⟨S2x65536x3072, .bf16⟩
  | 127 => ⟨S65536x2048, .bf16⟩
  | _ => ⟨S32x2048x1024, .f32⟩

abbrev hbmTy0_1 (i : Nat) : BufTy := match i % 128 with
  | 0 => ⟨S65536x2048, .bf16⟩
  | 1 => ⟨S65536x1024, .bf16⟩
  | 2 => ⟨S65536x128, .f32⟩
  | 3 => ⟨S65536x1024, .bf16⟩
  | 4 => ⟨S32x256x1024, .bf16⟩
  | 5 => ⟨S65536x1024, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3072, .bf16⟩
  | .local _ .vmem, ⟨4, _⟩ => ⟨S1x1024x3072, .bf16⟩
  | .local _ .vmem, ⟨5, _⟩ => ⟨S1x512x3072, .bf16⟩
  | .local _ .vmem, ⟨6, _⟩ => ⟨S1x512x3072, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1024x896, .bf16⟩
  | .local _ .vmem, ⟨11, _⟩ => ⟨S1x384, .f32⟩
  | .local _ .vmem, ⟨12, _⟩ => ⟨S1x256, .f32⟩
  | .local _ .vmem, ⟨13, _⟩ => ⟨S384x2048, .bf16⟩
  | .local _ .vmem, ⟨14, _⟩ => ⟨S256x2048, .bf16⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S1x128, .f32⟩
  | .local _ .vmem, ⟨20, _⟩ => ⟨S1x128, .f32⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | .local _ .vmem, ⟨25, _⟩ => ⟨S512x1024, .bf16⟩
  | .local _ .vmem, ⟨26, _⟩ => ⟨S512x1024, .bf16⟩
  | .local _ .vmem, ⟨27, _⟩ => ⟨S512x128, .f32⟩
  | .local _ .vmem, ⟨28, _⟩ => ⟨S512x128, .f32⟩
  | .local _ .vmem, ⟨29, _⟩ => ⟨S2048x256, .bf16⟩
  | .local _ .vmem, ⟨30, _⟩ => ⟨S2048x256, .bf16⟩
  | .local _ .vmem, ⟨31, _⟩ => ⟨S2048x256, .bf16⟩
  | .local _ .vmem, ⟨32, _⟩ => ⟨S2048x256, .bf16⟩
  | .local _ .vmem, ⟨33, _⟩ => ⟨S2048x128, .bf16⟩
  | .local _ .vmem, ⟨34, _⟩ => ⟨S2048x128, .bf16⟩
  | .local _ .vmem, ⟨35, _⟩ => ⟨S1x2048x128, .bf16⟩
  | .local _ .vmem, ⟨36, _⟩ => ⟨S1x2048x128, .bf16⟩
  | .local _ .vmem, ⟨37, _⟩ => ⟨S2048x128, .bf16⟩
  | .local _ .vmem, ⟨38, _⟩ => ⟨S2048x128, .bf16⟩
  | .local _ .vmem, ⟨39, _⟩ => ⟨S1x256x1024, .f32⟩
  | .local _ .vmem, ⟨40, _⟩ => ⟨S1x256x1024, .f32⟩
  | .local _ .vmem, ⟨41, _⟩ => ⟨S1x1024, .f32⟩
  | .local _ .vmem, ⟨42, _⟩ => ⟨S1024x1024, .bf16⟩
  | .local _ .vmem, ⟨43, _⟩ => ⟨S1x256x1024, .bf16⟩
  | .local _ .vmem, ⟨44, _⟩ => ⟨S1x256x1024, .bf16⟩
  | .local _ .vmem, ⟨45, _⟩ => ⟨S512x1024, .f32⟩
  | .local _ .vmem, ⟨46, _⟩ => ⟨S512x1024, .f32⟩
  | .local _ .vmem, ⟨47, _⟩ => ⟨S1x1024, .f32⟩
  | .local _ .vmem, ⟨48, _⟩ => ⟨S1024x3072, .bf16⟩
  | .local _ .vmem, ⟨49, _⟩ => ⟨S512x1024, .bf16⟩
  | .local _ .vmem, ⟨50, _⟩ => ⟨S512x1024, .bf16⟩
  | .local _ .vmem, ⟨51, _⟩ => ⟨S512x1024, .bf16⟩
  | .local _ .vmem, ⟨52, _⟩ => ⟨S512x1024, .bf16⟩
  | .local _ .vmem, ⟨53, _⟩ => ⟨S1x512x1024, .bf16⟩
  | .local _ .vmem, ⟨54, _⟩ => ⟨S1x512x1024, .bf16⟩
  | .local _ .vmem, ⟨55, _⟩ => ⟨S1x256x1024, .bf16⟩
  | .local _ .vmem, ⟨56, _⟩ => ⟨S1x256x1024, .bf16⟩
  | .local _ .vmem, ⟨57, _⟩ => ⟨S1024x1024, .bf16⟩
  | .local _ .vmem, ⟨58, _⟩ => ⟨S1024x1024, .bf16⟩
  | .local _ .vmem, ⟨59, _⟩ => ⟨S512x1024, .bf16⟩
  | .local _ .vmem, ⟨60, _⟩ => ⟨S1024x1024, .bf16⟩
  | .local _ .vmem, ⟨61, _⟩ => ⟨S1x1024, .f32⟩
  | .local _ .vmem, ⟨62, _⟩ => ⟨S512x1024, .f32⟩
  | .local _ .vmem, ⟨63, _⟩ => ⟨S512x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_2 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_3 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_4 : Ref sig .tc := ⟨.hbm, 100, rfl⟩
abbrev main_v77 : Ref sig .tc := ⟨.hbm, 101, rfl⟩
abbrev main_v78 : Ref sig .tc := ⟨.hbm, 102, rfl⟩
abbrev main_cst_5 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_6 : Ref sig .tc := ⟨.hbm, 117, rfl⟩
abbrev main_v92 : Ref sig .tc := ⟨.hbm, 118, rfl⟩
abbrev main_cst_7 : Ref sig .tc := ⟨.hbm, 119, rfl⟩
abbrev main_v93 : Ref sig .tc := ⟨.hbm, 120, rfl⟩
abbrev main_v94 : Ref sig .tc := ⟨.hbm, 121, rfl⟩
abbrev main_cst_8 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99_0 : Ref sig .tc := ⟨.hbm, 127, rfl⟩
abbrev main_v99_1 : Ref sig .tc := ⟨.hbm, 128, rfl⟩
abbrev main_v99_2 : Ref sig .tc := ⟨.hbm, 129, rfl⟩
abbrev main_v99_3 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg11_1 : Ref sig .tc := ⟨.vmem, 22, rfl⟩
abbrev cc1_stg12_0 : Ref sig .tc := ⟨.vmem, 23, rfl⟩
abbrev cc1_stg12_1 : Ref sig .tc := ⟨.vmem, 24, rfl⟩
abbrev cc1_stg13_0 : Ref sig .tc := ⟨.vmem, 25, rfl⟩
abbrev cc1_stg13_1 : Ref sig .tc := ⟨.vmem, 26, rfl⟩
abbrev cc1_stg14_0 : Ref sig .tc := ⟨.vmem, 27, rfl⟩
abbrev cc1_stg14_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg3_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg3_1 : Ref sig .tc := ⟨.vmem, 50, rfl⟩
abbrev cc4_stg4_0 : Ref sig .tc := ⟨.vmem, 51, rfl⟩
abbrev cc4_stg4_1 : Ref sig .tc := ⟨.vmem, 52, rfl⟩
abbrev cc4_stg5_0 : Ref sig .tc := ⟨.vmem, 53, rfl⟩
abbrev cc4_stg5_1 : Ref sig .tc := ⟨.vmem, 54, rfl⟩
abbrev cc4_stg6_0 : Ref sig .tc := ⟨.vmem, 55, rfl⟩
abbrev cc4_stg6_1 : Ref sig .tc := ⟨.vmem, 56, rfl⟩
abbrev cc4_stg7_0 : Ref sig .tc := ⟨.vmem, 57, rfl⟩
abbrev cc4_stg8_0 : Ref sig .tc := ⟨.vmem, 58, rfl⟩
abbrev cc4_stg9_0 : Ref sig .tc := ⟨.vmem, 59, rfl⟩
abbrev cc4_stg10_0 : Ref sig .tc := ⟨.vmem, 60, rfl⟩
abbrev cc4_stg11_0 : Ref sig .tc := ⟨.vmem, 61, rfl⟩
abbrev cc4_stg12_0 : Ref sig .tc := ⟨.vmem, 62, rfl⟩
abbrev cc4_stg12_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc1_sem8_0 : DmaSem sig := 17
abbrev cc1_sem8_1 : DmaSem sig := 18
abbrev cc1_sem9_0 : DmaSem sig := 19
abbrev cc1_sem10_0 : DmaSem sig := 20
abbrev cc1_sem11_0 : DmaSem sig := 21
abbrev cc1_sem11_1 : DmaSem sig := 22
abbrev cc1_sem12_0 : DmaSem sig := 23
abbrev cc1_sem12_1 : DmaSem sig := 24
abbrev cc1_sem13_0 : DmaSem sig := 25
abbrev cc1_sem13_1 : DmaSem sig := 26
abbrev cc1_sem14_0 : DmaSem sig := 27
abbrev cc1_sem14_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem3_1 : DmaSem sig := 36
abbrev cc2_sem4_0 : DmaSem sig := 37
abbrev cc2_sem4_1 : DmaSem sig := 38
abbrev cc3_sem0_0 : DmaSem sig := 39
abbrev cc3_sem0_1 : DmaSem sig := 40
abbrev cc3_sem1_0 : DmaSem sig := 41
abbrev cc3_sem2_0 : DmaSem sig := 42
abbrev cc3_sem3_0 : DmaSem sig := 43
abbrev cc3_sem3_1 : DmaSem sig := 44
abbrev cc4_sem0_0 : DmaSem sig := 45
abbrev cc4_sem0_1 : DmaSem sig := 46
abbrev cc4_sem1_0 : DmaSem sig := 47
abbrev cc4_sem2_0 : DmaSem sig := 48
abbrev cc4_sem3_0 : DmaSem sig := 49
abbrev cc4_sem3_1 : DmaSem sig := 50
abbrev cc4_sem4_0 : DmaSem sig := 51
abbrev cc4_sem4_1 : DmaSem sig := 52
abbrev cc4_sem5_0 : DmaSem sig := 53
abbrev cc4_sem5_1 : DmaSem sig := 54
abbrev cc4_sem6_0 : DmaSem sig := 55
abbrev cc4_sem6_1 : DmaSem sig := 56
abbrev cc4_sem7_0 : DmaSem sig := 57
abbrev cc4_sem8_0 : DmaSem sig := 58
abbrev cc4_sem9_0 : DmaSem sig := 59
abbrev cc4_sem10_0 : DmaSem sig := 60
abbrev cc4_sem11_0 : DmaSem sig := 61
abbrev cc4_sem12_0 : DmaSem sig := 62
abbrev cc4_sem12_1 : DmaSem sig := 63

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_8 (i : grid1.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x896 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x2048 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1024 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨3, ![32, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c8_i32 : BitVec 32 := 8#32
  let v2 : BitVec 32 := Scalar.addi c8_i32 arg1
  let c1_i32_0 : BitVec 32 := 1#32
  let c0_i32 : BitVec 32 := 0#32
  ![c1_i32_0.toNat, v1.toNat, v2.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x2048x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S2048x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x256x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![128], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 3 → Nat :=
  let arg0 : BitVec 32 := BitVec.ofNat 32 (i 0).val
  let c1_i32 : BitVec 32 := 1#32
  let c2_i32 : BitVec 32 := 2#32
  let c0_i32 : BitVec 32 := 0#32
  ![c1_i32.toNat, arg0.toNat, c2_i32.toNat]

def cc4_transform_6 (i : grid4.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024x3072 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x512x1024 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x256x1024 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1024x1024 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1024x1024 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S512x1024 .bf16 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1024x1024 .bf16 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x1024 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 2 → Memref sig .tc .vmem S512x1024 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]
-- ==== KernelIdeal.lean ====
variable {F : FTy → Type} [FloatOps F] [Named F]
def κ : String → Option EReal := fun
  | "neg_log2e" => some ((-((Real.log 2)⁻¹) : ℝ) : EReal)
  | "q_scale" => some (((Real.sqrt 192)⁻¹ * (Real.log 2)⁻¹ : ℝ) : EReal)
  | _ => none
-- ==== ReferenceIdeal.lean ====
abbrev S32x2048x1024 : Shape := ⟨3, ![32, 2048, 1024]⟩
abbrev S32x256x1024 : Shape := ⟨3, ![32, 256, 1024]⟩
abbrev S1x1024 : Shape := ⟨2, ![1, 1024]⟩
abbrev S1x1024x9952 : Shape := ⟨3, ![1, 1024, 9952]⟩
abbrev S1x2x8 : Shape := ⟨3, ![1, 2, 8]⟩
abbrev S1x384 : Shape := ⟨2, ![1, 384]⟩
abbrev S1x384x1536 : Shape := ⟨3, ![1, 384, 1536]⟩
abbrev S1x256 : Shape := ⟨2, ![1, 256]⟩
abbrev S1x256x2048 : Shape := ⟨3, ![1, 256, 2048]⟩
abbrev S1x1024x1024 : Shape := ⟨3, ![1, 1024, 1024]⟩
abbrev S1x512x1024 : Shape := ⟨3, ![1, 512, 1024]⟩
abbrev S1024 : Shape := ⟨1, ![1024]⟩
abbrev S65536x1024 : Shape := ⟨2, ![65536, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x9952 : Shape := ⟨2, ![1024, 9952]⟩
abbrev S32x2048x9952 : Shape := ⟨3, ![32, 2048, 9952]⟩
abbrev S32x2048x3072 : Shape := ⟨3, ![32, 2048, 3072]⟩
abbrev S32x2048x32 : Shape := ⟨3, ![32, 2048, 32]⟩
abbrev S32x2048x384 : Shape := ⟨3, ![32, 2048, 384]⟩
abbrev S32x2048x320 : Shape := ⟨3, ![32, 2048, 320]⟩
abbrev S32x2048x512 : Shape := ⟨3, ![32, 2048, 512]⟩
abbrev S32x2048x4x8 : Shape := ⟨4, ![32, 2048, 4, 8]⟩
abbrev S2x8 : Shape := ⟨2, ![2, 8]⟩
abbrev S32x2048x2x8 : Shape := ⟨4, ![32, 2048, 2, 8]⟩
abbrev S1x1x2x8 : Shape := ⟨4, ![1, 1, 2, 8]⟩
abbrev S32x32x64x2x8 : Shape := ⟨5, ![32, 32, 64, 2, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x32x64x1x8 : Shape := ⟨5, ![32, 32, 64, 1, 8]⟩
abbrev S32x32x64x8 : Shape := ⟨4, ![32, 32, 64, 8]⟩
abbrev S64x32x32x8 : Shape := ⟨4, ![64, 32, 32, 8]⟩
abbrev S384 : Shape := ⟨1, ![384]⟩
abbrev S1x1x384 : Shape := ⟨3, ![1, 1, 384]⟩
abbrev S384x1536 : Shape := ⟨2, ![384, 1536]⟩
abbrev S32x2048x1536 : Shape := ⟨3, ![32, 2048, 1536]⟩
abbrev S32x2048x8x192 : Shape := ⟨4, ![32, 2048, 8, 192]⟩
abbrev S32x2048x8x128 : Shape := ⟨4, ![32, 2048, 8, 128]⟩
abbrev S32x2048x8x64 : Shape := ⟨4, ![32, 2048, 8, 64]⟩
abbrev S32x2048x256 : Shape := ⟨3, ![32, 2048, 256]⟩
abbrev S32x2048x64 : Shape := ⟨3, ![32, 2048, 64]⟩
abbrev S256 : Shape := ⟨1, ![256]⟩
abbrev S1x1x256 : Shape := ⟨3, ![1, 1, 256]⟩
abbrev S256x2048 : Shape := ⟨2, ![256, 2048]⟩
abbrev S32x2048x2048 : Shape := ⟨3, ![32, 2048, 2048]⟩
abbrev S32x2048x8x256 : Shape := ⟨4, ![32, 2048, 8, 256]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S32x2048x8x32 : Shape := ⟨4, ![32, 2048, 8, 32]⟩
abbrev S32x2048x1x64 : Shape := ⟨4, ![32, 2048, 1, 64]⟩
abbrev S32x2048x1x32 : Shape := ⟨4, ![32, 2048, 1, 32]⟩
abbrev S32x8x2048x2048 : Shape := ⟨4, ![32, 8, 2048, 2048]⟩
abbrev S32x8x2048 : Shape := ⟨3, ![32, 8, 2048]⟩
abbrev S32x8x2048x1 : Shape := ⟨4, ![32, 8, 2048, 1]⟩
abbrev S32x8x128x2048 : Shape := ⟨4, ![32, 8, 128, 2048]⟩
abbrev S32x2048x8 : Shape := ⟨3, ![32, 2048, 8]⟩
abbrev S32x2048x8x1 : Shape := ⟨4, ![32, 2048, 8, 1]⟩
abbrev S32x256 : Shape := ⟨2, ![32, 256]⟩
abbrev S32x256x1 : Shape := ⟨3, ![32, 256, 1]⟩
abbrev S1024x1024 : Shape := ⟨2, ![1024, 1024]⟩
abbrev S32x256x512 : Shape := ⟨3, ![32, 256, 512]⟩
abbrev S32x256x4x128 : Shape := ⟨4, ![32, 256, 4, 128]⟩
abbrev S32x2048x4x128 : Shape := ⟨4, ![32, 2048, 4, 128]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩
abbrev S32x2048x4 : Shape := ⟨3, ![32, 2048, 4]⟩
abbrev S32x2048x4x1 : Shape := ⟨4, ![32, 2048, 4, 1]⟩
abbrev S32x2048x3x1024 : Shape := ⟨4, ![32, 2048, 3, 1024]⟩
abbrev S32x2048x1x1024 : Shape := ⟨4, ![32, 2048, 1, 1024]⟩
abbrev S512x1024 : Shape := ⟨2, ![512, 1024]⟩
abbrev S65536x3072 : Shape := ⟨2, ![65536, 3072]⟩
abbrev S65536x512 : Shape := ⟨2, ![65536, 512]⟩
abbrev S1x65536x3072 : Shape := ⟨3, ![1, 65536, 3072]⟩
abbrev S2x65536x3072 : Shape := ⟨3, ![2, 65536, 3072]⟩
abbrev S65536x8 : Shape := ⟨2, ![65536, 8]⟩
abbrev S65536x16 : Shape := ⟨2, ![65536, 16]⟩
abbrev S65536x96 : Shape := ⟨2, ![65536, 96]⟩
abbrev S65536x128 : Shape := ⟨2, ![65536, 128]⟩

abbrev nBuf : Space → Nat
  | .hbm => 360
  | .vmem => 0
  | .smem => 0
  | _ => 0

abbrev hbmTy0_0 (i : Nat) : BufTy := match i % 128 with
  | 0 => ⟨S32x2048x1024, .f32⟩
  | 1 => ⟨S32x256x1024, .f32⟩
  | 2 => ⟨S1x1024, .f32⟩
  | 3 => ⟨S1x1024x9952, .f32⟩
  | 4 => ⟨S1x2x8, .f32⟩
  | 5 => ⟨S1x2x8, .f32⟩
  | 6 => ⟨S1x384, .f32⟩
  | 7 => ⟨S1x384x1536, .f32⟩
  | 8 => ⟨S1x256, .f32⟩
  | 9 => ⟨S1x256x2048, .f32⟩
  | 10 => ⟨S1x1024, .f32⟩
  | 11 => ⟨S1x1024x1024, .f32⟩
  | 12 => ⟨S1x1024x1024, .f32⟩
  | 13 => ⟨S1x1024x1024, .f32⟩
  | 14 => ⟨S1x512x1024, .f32⟩
  | 15 => ⟨S1x1024x1024, .f32⟩
  | 16 => ⟨S1024, .f32⟩
  | 17 => ⟨S65536x1024, .bf16⟩
  | 18 => ⟨S1024, .f32⟩
  | 19 => ⟨S32x2048x1024, .f32⟩
  | 20 => ⟨S_, .f32⟩
  | 21 => ⟨S32x2048, .f32⟩
  | 22 => ⟨S32x2048x1, .f32⟩
  | 23 => ⟨S_, .f32⟩
  | 24 => ⟨S32x2048x1, .f32⟩
  | 25 => ⟨S32x2048x1, .f32⟩
  | 26 => ⟨S_, .f32⟩
  | 27 => ⟨S32x2048x1, .f32⟩
  | 28 => ⟨S32x2048x1, .f32⟩
  | 29 => ⟨S32x2048x1, .f32⟩
  | 30 => ⟨S32x2048x1024, .f32⟩
  | 31 => ⟨S32x2048x1024, .f32⟩
  | 32 => ⟨S1x1x1024, .f32⟩
  | 33 => ⟨S32x2048x1024, .f32⟩
  | 34 => ⟨S32x2048x1024, .f32⟩
  | 35 => ⟨S1024x9952, .f32⟩
  | 36 => ⟨S32x2048x9952, .f32⟩
  | 37 => ⟨S32x2048x3072, .f32⟩
  | 38 => ⟨S32x2048x32, .f32⟩
  | 39 => ⟨S32x2048x1024, .f32⟩
  | 40 => ⟨S32x2048x384, .f32⟩
  | 41 => ⟨S32x2048x320, .f32⟩
  | 42 => ⟨S32x2048x1024, .f32⟩
  | 43 => ⟨S32x2048x512, .f32⟩
  | 44 => ⟨S32x2048x512, .f32⟩
  | 45 => ⟨S32x2048x3072, .f32⟩
  | 46 => ⟨S32x2048x4x8, .f32⟩
  | 47 => ⟨S2x8, .f32⟩
  | 48 => ⟨S2x8, .f32⟩
  | 49 => ⟨S2x8, .f32⟩
  | 50 => ⟨S32x2048x2x8, .f32⟩
  | 51 => ⟨S2x8, .f32⟩
  | 52 => ⟨S1x1x2x8, .f32⟩
  | 53 => ⟨S32x2048x2x8, .f32⟩
  | 54 => ⟨S32x2048x2x8, .f32⟩
  | 55 => ⟨S_, .f32⟩
  | 56 => ⟨S32x2048x2x8, .f32⟩
  | 57 => ⟨S32x2048x2x8, .f32⟩
  | 58 => ⟨S32x2048x2x8, .f32⟩
  | 59 => ⟨S32x2048x2x8, .f32⟩
  | 60 => ⟨S32x2048x2x8, .i1⟩
  | 61 => ⟨S32x2048x2x8, .f32⟩
  | 62 => ⟨S32x2048x2x8, .f32⟩
  | 63 => ⟨S32x2048x2x8, .f32⟩
  | 64 => ⟨S32x2048x2x8, .f32⟩
  | 65 => ⟨S32x2048x2x8, .f32⟩
  | 66 => ⟨S32x2048x2x8, .f32⟩
  | 67 => ⟨S32x2048x2x8, .f32⟩
  | 68 => ⟨S32x2048x2x8, .f32⟩
  | 69 => ⟨S1x1x2x8, .f32⟩
  | 70 => ⟨S32x2048x2x8, .f32⟩
  | 71 => ⟨S32x2048x2x8, .f32⟩
  | 72 => ⟨S32x2048x2x8, .f32⟩
  | 73 => ⟨S32x2048x2x8, .f32⟩
  | 74 => ⟨S32x2048x2x8, .f32⟩
  | 75 => ⟨S_, .f32⟩
  | 76 => ⟨S32x2048x2x8, .f32⟩
  | 77 => ⟨S32x2048x2x8, .f32⟩
  | 78 => ⟨S_, .f32⟩
  | 79 => ⟨S32x2048x2x8, .f32⟩
  | 80 => ⟨S32x2048x2x8, .f32⟩
  | 81 => ⟨S32x32x64x2x8, .f32⟩
  | 82 => ⟨S64, .i32⟩
  | 83 => ⟨S1x64, .i32⟩
  | 84 => ⟨S64x1, .i32⟩
  | 85 => ⟨S64x64, .i32⟩
  | 86 => ⟨S64x64, .i32⟩
  | 87 => ⟨S64x64, .i1⟩
  | 88 => ⟨S64x64, .f32⟩
  | 89 => ⟨S32x32x64x1x8, .f32⟩
  | 90 => ⟨S32x32x64x8, .f32⟩
  | 91 => ⟨S64x32x32x8, .f32⟩
  | 92 => ⟨S32x32x64x8, .f32⟩
  | 93 => ⟨S32x32x64x1x8, .f32⟩
  | 94 => ⟨S32x32x64x8, .f32⟩
  | 95 => ⟨S64x32x32x8, .f32⟩
  | 96 => ⟨S32x32x64x8, .f32⟩
  | 97 => ⟨S384, .f32⟩
  | 98 => ⟨S32x2048x384, .f32⟩
  | 99 => ⟨S_, .f32⟩
  | 100 => ⟨S32x2048, .f32⟩
  | 101 => ⟨S32x2048x1, .f32⟩
  | 102 => ⟨S_, .f32⟩
  | 103 => ⟨S32x2048x1, .f32⟩
  | 104 => ⟨S32x2048x1, .f32⟩
  | 105 => ⟨S_, .f32⟩
  | 106 => ⟨S32x2048x1, .f32⟩
  | 107 => ⟨S32x2048x1, .f32⟩
  | 108 => ⟨S32x2048x1, .f32⟩
  | 109 => ⟨S32x2048x384, .f32⟩
  | 110 => ⟨S32x2048x384, .f32⟩
  | 111 => ⟨S1x1x384, .f32⟩
  | 112 => ⟨S32x2048x384, .f32⟩
  | 113 => ⟨S32x2048x384, .f32⟩
  | 114 => ⟨S384x1536, .f32⟩
  | 115 => ⟨S32x2048x1536, .f32⟩
  | 116 => ⟨S32x2048x8x192, .f32⟩
  | 117 => ⟨S32x2048x8x128, .f32⟩
  | 118 => ⟨S32x2048x8x64, .f32⟩
  | 119 => ⟨S32x2048x256, .f32⟩
  | 120 => ⟨S32x2048x64, .f32⟩
  | 121 => ⟨S256, .f32⟩
  | 122 => ⟨S32x2048x256, .f32⟩
  | 123 => ⟨S_, .f32⟩
  | 124 => ⟨S32x2048, .f32⟩
  | 125 => ⟨S32x2048x1, .f32⟩
  | 126 => ⟨S_, .f32⟩
  | 127 => ⟨S32x2048x1, .f32⟩
  | _ => ⟨S32x2048x1024, .f32⟩

abbrev hbmTy0_1 (i : Nat) : BufTy := match i % 128 with
  | 0 => ⟨S32x2048x1, .f32⟩
  | 1 => ⟨S_, .f32⟩
  | 2 => ⟨S32x2048x1, .f32⟩
  | 3 => ⟨S32x2048x1, .f32⟩
  | 4 => ⟨S32x2048x1, .f32⟩
  | 5 => ⟨S32x2048x256, .f32⟩
  | 6 => ⟨S32x2048x256, .f32⟩
  | 7 => ⟨S1x1x256, .f32⟩
  | 8 => ⟨S32x2048x256, .f32⟩
  | 9 => ⟨S32x2048x256, .f32⟩
  | 10 => ⟨S256x2048, .f32⟩
  | 11 => ⟨S32x2048x2048, .f32⟩
  | 12 => ⟨S32x2048x8x256, .f32⟩
  | 13 => ⟨S32x2048x8x128, .f32⟩
  | 14 => ⟨S32x2048x8x128, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S2048, .i32⟩
  | 24 => ⟨S2048, .f32⟩
  | 25 => ⟨S2048x1, .f32⟩
  | 26 => ⟨S1x32, .f32⟩
  | 27 => ⟨S2048x32, .f32⟩
  | 28 => ⟨S2048x32, .f32⟩
  | 29 => ⟨S2048x32, .f32⟩
  | 30 => ⟨S2048x32, .f32⟩
  | 31 => ⟨S1x2048x1x32, .f32⟩
  | 32 => ⟨S2048x32, .f32⟩
  | 33 => ⟨S1x2048x1x32, .f32⟩
  | 34 => ⟨S32x2048x8x32, .f32⟩
  | 35 => ⟨S32x2048x8x32, .f32⟩
  | 36 => ⟨S32x2048x8x32, .f32⟩
  | 37 => ⟨S32x2048x8x32, .f32⟩
  | 38 => ⟨S32x2048x8x32, .f32⟩
  | 39 => ⟨S32x2048x8x32, .f32⟩
  | 40 => ⟨S32x2048x8x32, .f32⟩
  | 41 => ⟨S32x2048x8x32, .f32⟩
  | 42 => ⟨S32x2048x8x32, .f32⟩
  | 43 => ⟨S32x2048x8x32, .f32⟩
  | 44 => ⟨S32x2048x8x32, .f32⟩
  | 45 => ⟨S32x2048x8x32, .f32⟩
  | 46 => ⟨S32x2048x8x64, .f32⟩
  | 47 => ⟨S32x2048x8x192, .f32⟩
  | 48 => ⟨S32x2048x1x64, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S2048, .i32⟩
  | 58 => ⟨S2048, .f32⟩
  | 59 => ⟨S2048x1, .f32⟩
  | 60 => ⟨S1x32, .f32⟩
  | 61 => ⟨S2048x32, .f32⟩
  | 62 => ⟨S2048x32, .f32⟩
  | 63 => ⟨S2048x32, .f32⟩
  | 64 => ⟨S2048x32, .f32⟩
  | 65 => ⟨S1x2048x1x32, .f32⟩
  | 66 => ⟨S2048x32, .f32⟩
  | 67 => ⟨S1x2048x1x32, .f32⟩
  | 68 => ⟨S32x2048x1x32, .f32⟩
  | 69 => ⟨S32x2048x1x32, .f32⟩
  | 70 => ⟨S32x2048x1x32, .f32⟩
  | 71 => ⟨S32x2048x1x32, .f32⟩
  | 72 => ⟨S32x2048x1x32, .f32⟩
  | 73 => ⟨S32x2048x1x32, .f32⟩
  | 74 => ⟨S32x2048x1x32, .f32⟩
  | 75 => ⟨S32x2048x1x32, .f32⟩
  | 76 => ⟨S32x2048x1x32, .f32⟩
  | 77 => ⟨S32x2048x1x32, .f32⟩
  | 78 => ⟨S32x2048x1x32, .f32⟩
  | 79 => ⟨S32x2048x1x32, .f32⟩
  | 80 => ⟨S32x2048x1x64, .f32⟩
  | 81 => ⟨S32x2048x8x64, .f32⟩
  | 82 => ⟨S32x2048x8x192, .f32⟩
  | 83 => ⟨S_, .f32⟩
  | 84 => ⟨S_, .f32⟩
  | 85 => ⟨S_, .f32⟩
  | 86 => ⟨S_, .f32⟩
  | 87 => ⟨S32x8x2048x2048, .f32⟩
  | 88 => ⟨S32x8x2048x2048, .f32⟩
  | 89 => ⟨S32x8x2048x2048, .f32⟩
  | 90 => ⟨S_, .f32⟩
  | 91 => ⟨S32x8x2048, .f32⟩
  | 92 => ⟨S32x8x2048x1, .f32⟩
  | 93 => ⟨S32x8x2048x2048, .f32⟩
  | 94 => ⟨S32x8x2048x2048, .f32⟩
  | 95 => ⟨S32x8x2048x2048, .f32⟩
  | 96 => ⟨S32x8x128x2048, .f32⟩
  | 97 => ⟨S32x2048x8x128, .f32⟩
  | 98 => ⟨S_, .f32⟩
  | 99 => ⟨S32x8x2048, .f32⟩
  | 100 => ⟨S32x2048x8, .f32⟩
  | 101 => ⟨S32x2048x8x1, .f32⟩
  | 102 => ⟨S32x2048x8x128, .f32⟩
  | 103 => ⟨S32x2048x8x128, .f32⟩
  | 104 => ⟨S32x2048x1024, .f32⟩
  | 105 => ⟨S32x2048x1024, .f32⟩
  | 106 => ⟨S32x2048x1024, .f32⟩
  | 107 => ⟨S_, .f32⟩
  | 108 => ⟨S32x2048x1024, .f32⟩
  | 109 => ⟨S32x2048x1024, .f32⟩
  | 110 => ⟨S_, .f32⟩
  | 111 => ⟨S32x2048x1024, .f32⟩
  | 112 => ⟨S32x2048x1024, .f32⟩
  | 113 => ⟨S32x2048x1024, .f32⟩
  | 114 => ⟨S32x2048x1024, .f32⟩
  | 115 => ⟨S1024, .f32⟩
  | 116 => ⟨S32x256x1024, .f32⟩
  | 117 => ⟨S_, .f32⟩
  | 118 => ⟨S32x256, .f32⟩
  | 119 => ⟨S32x256x1, .f32⟩
  | 120 => ⟨S_, .f32⟩
  | 121 => ⟨S32x256x1, .f32⟩
  | 122 => ⟨S32x256x1, .f32⟩
  | 123 => ⟨S_, .f32⟩
  | 124 => ⟨S32x256x1, .f32⟩
  | 125 => ⟨S32x256x1, .f32⟩
  | 126 => ⟨S32x256x1, .f32⟩
  | 127 => ⟨S32x256x1024, .f32⟩
  | _ => ⟨S32x2048x1024, .f32⟩

abbrev hbmTy0_2 (i : Nat) : BufTy := match i % 128 with
  | 0 => ⟨S32x256x1024, .f32⟩
  | 1 => ⟨S1x1x1024, .f32⟩
  | 2 => ⟨S32x256x1024, .f32⟩
  | 3 => ⟨S32x256x1024, .f32⟩
  | 4 => ⟨S1024x1024, .f32⟩
  | 5 => ⟨S32x256x1024, .f32⟩
  | 6 => ⟨S32x256x512, .f32⟩
  | 7 => ⟨S32x256x512, .f32⟩
  | 8 => ⟨S32x256x4x128, .f32⟩
  | 9 => ⟨S32x256x4x128, .f32⟩
  | 10 => ⟨S32x2048x4x128, .f32⟩
  | 11 => ⟨S32x4x2048x256, .f32⟩
  | 12 => ⟨S_, .f32⟩
  | 13 => ⟨S32x4x2048x256, .f32⟩
  | 14 => ⟨S32x4x2048x256, .f32⟩
  | 15 => ⟨S_, .f32⟩
  | 16 => ⟨S32x4x2048, .f32⟩
  | 17 => ⟨S32x4x2048x1, .f32⟩
  | 18 => ⟨S32x4x2048x256, .f32⟩
  | 19 => ⟨S32x4x2048x256, .f32⟩
  | 20 => ⟨S32x4x2048x256, .f32⟩
  | 21 => ⟨S32x4x128x2048, .f32⟩
  | 22 => ⟨S32x2048x4x128, .f32⟩
  | 23 => ⟨S_, .f32⟩
  | 24 => ⟨S32x4x2048, .f32⟩
  | 25 => ⟨S32x2048x4, .f32⟩
  | 26 => ⟨S32x2048x4x1, .f32⟩
  | 27 => ⟨S32x2048x4x128, .f32⟩
  | 28 => ⟨S32x2048x4x128, .f32⟩
  | 29 => ⟨S32x2048x512, .f32⟩
  | 30 => ⟨S32x2048x512, .f32⟩
  | 31 => ⟨S32x2048x512, .f32⟩
  | 32 => ⟨S_, .f32⟩
  | 33 => ⟨S32x2048x512, .f32⟩
  | 34 => ⟨S32x2048x512, .f32⟩
  | 35 => ⟨S_, .f32⟩
  | 36 => ⟨S32x2048x512, .f32⟩
  | 37 => ⟨S32x2048x512, .f32⟩
  | 38 => ⟨S32x2048x512, .f32⟩
  | 39 => ⟨S32x2048x512, .f32⟩
  | 40 => ⟨S32x2048x3072, .f32⟩
  | 41 => ⟨S32x2048x3072, .f32⟩
  | 42 => ⟨S_, .f32⟩
  | 43 => ⟨S32x2048x3072, .f32⟩
  | 44 => ⟨S32x2048x3072, .f32⟩
  | 45 => ⟨S_, .f32⟩
  | 46 => ⟨S32x2048x3072, .f32⟩
  | 47 => ⟨S32x2048x3072, .f32⟩
  | 48 => ⟨S32x2048x3x1024, .f32⟩
  | 49 => ⟨S32x2048x1x1024, .f32⟩
  | 50 => ⟨S32x2048x1024, .f32⟩
  | 51 => ⟨S65536x1024, .f32⟩
  | 52 => ⟨S32x2048x1024, .f32⟩
  | 53 => ⟨S1024x1024, .f32⟩
  | 54 => ⟨S32x2048x1024, .f32⟩
  | 55 => ⟨S32x2048x1024, .f32⟩
  | 56 => ⟨S32x2048x1x1024, .f32⟩
  | 57 => ⟨S32x2048x1024, .f32⟩
  | 58 => ⟨S1024x1024, .f32⟩
  | 59 => ⟨S32x2048x1024, .f32⟩
  | 60 => ⟨S32x2048x1024, .f32⟩
  | 61 => ⟨S32x2048x1024, .f32⟩
  | 62 => ⟨S32x2048x1x1024, .f32⟩
  | 63 => ⟨S32x2048x1024, .f32⟩
  | 64 => ⟨S512x1024, .f32⟩
  | 65 => ⟨S32x2048x1024, .f32⟩
  | 66 => ⟨S32x2048x1024, .f32⟩
  | 67 => ⟨S32x2048x1024, .f32⟩
  | 68 => ⟨S1024x1024, .f32⟩
  | 69 => ⟨S32x2048x1024, .f32⟩
  | 70 => ⟨S32x2048x1024, .f32⟩
  | 71 => ⟨S32x2048x1024, .f32⟩
  | 72 => ⟨S_, .f32⟩
  | 73 => ⟨S32x2048, .f32⟩
  | 74 => ⟨S32x2048x1, .f32⟩
  | 75 => ⟨S_, .f32⟩
  | 76 => ⟨S32x2048x1, .f32⟩
  | 77 => ⟨S32x2048x1, .f32⟩
  | 78 => ⟨S_, .f32⟩
  | 79 => ⟨S32x2048x1, .f32⟩
  | 80 => ⟨S32x2048x1, .f32⟩
  | 81 => ⟨S32x2048x1, .f32⟩
  | 82 => ⟨S32x2048x1024, .f32⟩
  | 83 => ⟨S32x2048x1024, .f32⟩
  | 84 => ⟨S1x1x1024, .f32⟩
  | 85 => ⟨S32x2048x1024, .f32⟩
  | 86 => ⟨S32x2048x1024, .f32⟩
  | 87 => ⟨S65536x3072, .f32⟩
  | 88 => ⟨S65536x1024, .f32⟩
  | 89 => ⟨S65536x1024, .f32⟩
  | 90 => ⟨S65536x512, .f32⟩
  | 91 => ⟨S65536x512, .f32⟩
  | 92 => ⟨S65536x3072, .f32⟩
  | 93 => ⟨S1x65536x3072, .f32⟩
  | 94 => ⟨S1x65536x3072, .f32⟩
  | 95 => ⟨S2x65536x3072, .f32⟩
  | 96 => ⟨S2x65536x3072, .bf16⟩
  | 97 => ⟨S65536x8, .f32⟩
  | 98 => ⟨S65536x8, .f32⟩
  | 99 => ⟨S65536x16, .f32⟩
  | 100 => ⟨S_, .f32⟩
  | 101 => ⟨S65536x96, .f32⟩
  | 102 => ⟨S65536x128, .f32⟩
  | 103 => ⟨S65536x1024, .f32⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_2 : Ref sig .tc := ⟨.hbm, 75, rfl⟩
abbrev main_v41 : Ref sig .tc := ⟨.hbm, 76, rfl⟩
abbrev main_v42 : Ref sig .tc := ⟨.hbm, 77, rfl⟩
abbrev main_cst_3 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_4 : Ref sig .tc := ⟨.hbm, 99, rfl⟩
abbrev main_v63 : Ref sig .tc := ⟨.hbm, 100, rfl⟩
abbrev main_v64 : Ref sig .tc := ⟨.hbm, 101, rfl⟩
abbrev main_cst_5 : Ref sig .tc := ⟨.hbm, 102, rfl⟩
abbrev main_v65 : Ref sig .tc := ⟨.hbm, 103, rfl⟩
abbrev main_v66 : Ref sig .tc := ⟨.hbm, 104, rfl⟩
abbrev main_cst_6 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_7 : Ref sig .tc := ⟨.hbm, 123, rfl⟩
abbrev main_v84 : Ref sig .tc := ⟨.hbm, 124, rfl⟩
abbrev main_v85 : Ref sig .tc := ⟨.hbm, 125, rfl⟩
abbrev main_cst_8 : Ref sig .tc := ⟨.hbm, 126, rfl⟩
abbrev main_v86 : Ref sig .tc := ⟨.hbm, 127, rfl⟩
abbrev main_v87 : Ref sig .tc := ⟨.hbm, 128, rfl⟩
abbrev main_cst_9 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_10 : Ref sig .tc := ⟨.hbm, 145, rfl⟩
abbrev main_v103 : Ref sig .tc := ⟨.hbm, 146, rfl⟩
abbrev main_v104 : Ref sig .tc := ⟨.hbm, 147, rfl⟩
abbrev main_cst_11 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_12 : Ref sig .tc := ⟨.hbm, 179, rfl⟩
abbrev main_v135 : Ref sig .tc := ⟨.hbm, 180, rfl⟩
abbrev main_v136 : Ref sig .tc := ⟨.hbm, 181, rfl⟩
abbrev main_cst_13 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_14 : Ref sig .tc := ⟨.hbm, 211, rfl⟩
abbrev main_v165 : Ref sig .tc := ⟨.hbm, 212, rfl⟩
abbrev main_cst_15 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_cst_16 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_17 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_call1_v0 : Ref sig .tc := ⟨.hbm, 233, rfl⟩
abbrev main_call1_v1 : Ref sig .tc := ⟨.hbm, 234, rfl⟩
abbrev main_call1_cst : Ref sig .tc := ⟨.hbm, 235, rfl⟩
abbrev main_call1_v2 : Ref sig .tc := ⟨.hbm, 236, rfl⟩
abbrev main_call1_v3 : Ref sig .tc := ⟨.hbm, 237, rfl⟩
abbrev main_call1_cst_0 : Ref sig .tc := ⟨.hbm, 238, rfl⟩
abbrev main_call1_v4 : Ref sig .tc := ⟨.hbm, 239, rfl⟩
abbrev main_call1_v5 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_cst_18 : Ref sig .tc := ⟨.hbm, 245, rfl⟩
abbrev main_v187 : Ref sig .tc := ⟨.hbm, 246, rfl⟩
abbrev main_v188 : Ref sig .tc := ⟨.hbm, 247, rfl⟩
abbrev main_cst_19 : Ref sig .tc := ⟨.hbm, 248, rfl⟩
abbrev main_v189 : Ref sig .tc := ⟨.hbm, 249, rfl⟩
abbrev main_v190 : Ref sig .tc := ⟨.hbm, 250, rfl⟩
abbrev main_cst_20 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_cst_21 : Ref sig .tc := ⟨.hbm, 268, rfl⟩
abbrev main_v207 : Ref sig .tc := ⟨.hbm, 269, rfl⟩
abbrev main_v208 : Ref sig .tc := ⟨.hbm, 270, rfl⟩
abbrev main_cst_22 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_cst_23 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_call2_v0 : Ref sig .tc := ⟨.hbm, 286, rfl⟩
abbrev main_call2_v1 : Ref sig .tc := ⟨.hbm, 287, rfl⟩
abbrev main_call2_cst : Ref sig .tc := ⟨.hbm, 288, rfl⟩
abbrev main_call2_v2 : Ref sig .tc := ⟨.hbm, 289, rfl⟩
abbrev main_call2_v3 : Ref sig .tc := ⟨.hbm, 290, rfl⟩
abbrev main_call2_cst_0 : Ref sig .tc := ⟨.hbm, 291, rfl⟩
abbrev main_call2_v4 : Ref sig .tc := ⟨.hbm, 292, rfl⟩
abbrev main_call2_v5 : Ref sig .tc := ⟨.hbm, 293, rfl⟩
abbrev main_v222 : Ref sig .tc := ⟨.hbm, 294, rfl⟩
abbrev main_v223 : Ref sig .tc := ⟨.hbm, 295, rfl⟩
abbrev main_v224 : Ref sig .tc := ⟨.hbm, 296, rfl⟩
abbrev main_v225 : Ref sig .tc := ⟨.hbm, 297, rfl⟩
abbrev main_cst_24 : Ref sig .tc := ⟨.hbm, 298, rfl⟩
abbrev main_v226 : Ref sig .tc := ⟨.hbm, 299, rfl⟩
abbrev main_v227 : Ref sig .tc := ⟨.hbm, 300, rfl⟩
abbrev main_cst_25 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_cst_26 : Ref sig .tc := ⟨.hbm, 328, rfl⟩
abbrev main_v254 : Ref sig .tc := ⟨.hbm, 329, rfl⟩
abbrev main_v255 : Ref sig .tc := ⟨.hbm, 330, rfl⟩
abbrev main_cst_27 : Ref sig .tc := ⟨.hbm, 331, rfl⟩
abbrev main_v256 : Ref sig .tc := ⟨.hbm, 332, rfl⟩
abbrev main_v257 : Ref sig .tc := ⟨.hbm, 333, rfl⟩
abbrev main_cst_28 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_cst_29 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩

abbrev nD : Nat := 1
abbrev τ : Topo := Topo.v7x

variable {F : FTy → Type} [FloatOps F]
-- ==== Proof.Extended.lean ====
/- Facts about the extended reals that the value claim uses: a positive real factor moved through a sum, a maximum and
   a difference; the exponential to base two of a multiple of 1 / log 2; the logistic function written with it; and the
   attention row, whose value does not change when the scores are multiplied by 1 / log 2 and exponentiated to base two. -/
module

public import Idealize.ShloMosaic.Lib.Pointwise

@[expose] public section

noncomputable section

namespace Cert.Layer

open Idealize.ShloMosaic

/-- 1 / log 2, the factor between the natural and the binary exponent. -/
abbrev ilog2 : EReal := (((Real.log 2)⁻¹ : ℝ) : EReal)

/-- 1 / log 2 is positive. -/
theorem ilog2_pos : (0 : ℝ) < (Real.log 2)⁻¹ := inv_pos.mpr (Real.log_pos (by norm_num))

/-- A positive real factor distributes over every extended sum. -/
theorem mul_add_pos {c : ℝ} (hc : 0 < c) (x y : EReal) : (c : EReal) * (x + y) = c * x + c * y :=
  EReal.left_distrib_of_nonneg_of_ne_top (EReal.coe_nonneg.mpr hc.le) (EReal.coe_ne_top c) x y

theorem mul_sum_pos {c : ℝ} (hc : 0 < c) {ι : Type} (s : Finset ι) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, mul_add_pos hc, ih]

/-- A positive real factor distributes over every extended difference. -/
theorem sub_mul_pos {c : ℝ} (hc : 0 < c) (x y : EReal) : x * c - y * c = (x - y) * (c : EReal) := by
  rw [sub_eq_add_neg, sub_eq_add_neg, mul_comm (x + -y), mul_add_pos hc, mul_comm (c : EReal) (-y), EReal.neg_mul,
    mul_comm x]

/-- A positive real factor distributes over a maximum. -/
theorem max_mul_pos {c : ℝ} (hc : 0 < c) (x y : EReal) : max (x * c) (y * c) = max x y * (c : EReal) := by
  have h : Monotone fun z : EReal => z * (c : EReal) := fun a b hab =>
    mul_le_mul_of_nonneg_right hab (EReal.coe_nonneg.mpr hc.le)
  exact (h.map_max (a := x) (b := y)).symm

/-- A positive real factor distributes over the maximum of a row. -/
theorem fold_max_mul_pos {c : ℝ} (hc : 0 < c) {n : Nat} (f : Fin n → EReal) :
    Finset.univ.fold max (⊥ : EReal) (fun k => f k * (c : EReal)) = Finset.univ.fold max (⊥ : EReal) f * (c : EReal) := by
  have h := Finset.fold_hom (op := max) (op' := max) (m := fun z : EReal => z * (c : EReal)) (b := ⊥) (s := Finset.univ)
    (f := f) (fun x y => (max_mul_pos hc x y).symm)
  rw [← h, EReal.bot_mul_coe_of_pos hc]

/-- Two to the power y / log 2 is e to the power y. -/
theorem exp2_mul_ilog2 (y : EReal) : Ideal.exp2 (y * ilog2) = Ideal.exp y := by
  induction y with
  | bot => rw [EReal.bot_mul_coe_of_pos ilog2_pos]; rfl
  | top => rw [EReal.top_mul_coe_of_pos ilog2_pos]; rfl
  | coe r =>
    rw [← EReal.coe_mul]
    show ((Real.rpow 2 (r * (Real.log 2)⁻¹) : ℝ) : EReal) = ((Real.exp r : ℝ) : EReal)
    have h : Real.log 2 ≠ 0 := (Real.log_pos (by norm_num)).ne'
    show (((2 : ℝ) ^ (r * (Real.log 2)⁻¹) : ℝ) : EReal) = _
    rw [Real.rpow_def_of_pos (by norm_num), mul_comm r, ← mul_assoc, mul_inv_cancel₀ h, one_mul]

/-- The logistic function. -/
def logistic (x : EReal) : EReal := Ideal.div 1 (1 + Ideal.exp (-x))

/-- The logistic function, computed to base two. -/
theorem logistic_exp2 (x : EReal) : Ideal.div 1 (1 + Ideal.exp2 (x * ((-((Real.log 2)⁻¹) : ℝ) : EReal))) = logistic x := by
  rw [EReal.coe_neg, mul_comm, EReal.neg_mul, mul_comm, ← EReal.neg_mul]
  show Ideal.div 1 (1 + Ideal.exp2 (-x * ilog2)) = _
  rw [exp2_mul_ilog2]; rfl

/-- One row of attention: the values weighted by the exponentials of the scores less their maximum, over the sum of
    those exponentials. -/
def attn {n : Nat} (s v : Fin n → EReal) : EReal :=
  Ideal.div (∑ k, Ideal.exp (s k - Finset.univ.fold max (⊥ : EReal) s) * v k)
    (∑ k, Ideal.exp (s k - Finset.univ.fold max (⊥ : EReal) s))

/-- The attention row of scores multiplied by 1 / log 2, to base two, is the attention row of the scores. -/
theorem attn_exp2 {n : Nat} (s v : Fin n → EReal) :
    Ideal.div
      (∑ k, Ideal.exp2 (s k * ilog2 - Finset.univ.fold max (⊥ : EReal) (fun j => s j * ilog2)) * v k)
      (∑ k, Ideal.exp2 (s k * ilog2 - Finset.univ.fold max (⊥ : EReal) (fun j => s j * ilog2))) = attn s v := by
  simp only [fold_max_mul_pos ilog2_pos, sub_mul_pos ilog2_pos]
  simp only [exp2_mul_ilog2]
  rfl

/-- The word of minus infinity. -/
theorem ofBits_neg_inf : Ideal.ofBits .f32 0xFF800000#32 = (⊥ : EReal) := by simp [Ideal.ofBits, Ideal.ieee]

/-- The softplus. -/
def softplus (x : EReal) : EReal := max x 0 + Ideal.log (1 + Ideal.exp (-(max x (-x))))

/-- One row normalised by its root mean square (over N entries) and multiplied by a gain. -/
def rms {n : Nat} (N : EReal) (x g : Fin n → EReal) (k : Fin n) : EReal :=
  x k * Ideal.rsqrt (Ideal.div (∑ j, x j * x j) N + Ideal.ofBits .f32 0x358637BD#32) * g k

end Cert.Layer

end
-- ==== Proof.Named.lean ====
/- The two named constants of the kernel, as the exact reals they stand for. -/
module

public import proofs.«01_k».proof.Proof.Gen.KernelIdeal.Skeleton
public import Idealize.ShloMosaic.Lib.Pointwise

@[expose] public section

noncomputable section

namespace Cert.Layer

open Idealize.ShloMosaic

/-- The first constant is -1 / log 2. -/
theorem named_neg_log2e : (Named.named (F := Ideal) Cert.KernelIdeal.κ "neg_log2e" (φ := .f32) 0xBFB8AA3B#32 : EReal)
    = ((-((Real.log 2)⁻¹) : ℝ) : EReal) :=
  IdealRules.named_const.ideal_named_scalar _ _ _ _ rfl

/-- The second constant is 1 / (√192 · log 2). -/
theorem named_q_scale : (Named.named (F := Ideal) Cert.KernelIdeal.κ "q_scale" (φ := .f32) 0x3DD53B95#32 : EReal)
    = (((Real.sqrt 192)⁻¹ * (Real.log 2)⁻¹ : ℝ) : EReal) :=
  IdealRules.named_const.ideal_named_scalar _ _ _ _ rfl

end Cert.Layer

end
-- ==== Proof.Tiles.lean ====
/- What the bodies of four of the calls (the projection, the latent attention, the memory keys and values, the closing
   call) compute on one tile, entry by entry. -/
module

public import proofs.«01_k».proof.Proof.Gen.KernelIdeal.Skeleton
public import proofs.«01_k».proof.Proof.Extended
public import proofs.«01_k».proof.Proof.Named
public import Idealize.ShloMosaic.Lib.Pointwise

@[expose] public section

set_option maxRecDepth 16384

noncomputable section

namespace Cert.Layer

open Idealize.ShloMosaic Idealize.SL.Sem
open Cert.KernelIdeal Cert.KernelIdeal.Gen

/-- The projection's tile: the normalised row times the weights. -/
theorem proj_pay (x : Vec Ideal S512x1024 .f32) (g : Vec Ideal S1x1024 .f32) (w : Vec Ideal S1x1024x3072 .bf16)
    (y : S1x512x3072.Idx) :
    k0_pay1 (F := Ideal) x g w y
      = ∑ k : Fin 1024, rms (Ideal.ofBits .f32 0x44800000#32) (fun k => x (ix2 (y 1) k)) (fun k => g (ix2 0 k)) k * w (ix3 0 k (y 2)) := by
  idx_vars y
  unfold rms
  pointwise [k0_pay1]

/-- The memory's keys and values of one batch entry: the normalised row times the weights. -/
theorem mem_pay (x : Vec Ideal S1x256x1024 .f32) (g : Vec Ideal S1x1024 .f32) (w : Vec Ideal S1024x1024 .bf16)
    (y : S1x256x1024.Idx) :
    k3_pay1 (F := Ideal) x g w y
      = ∑ k : Fin 1024, rms (Ideal.ofBits .f32 0x44800000#32) (fun k => x (ix3 0 (y 1) k)) (fun k => g (ix2 0 k)) k * w (ix2 k (y 2)) := by
  idx_vars y
  unfold rms
  pointwise [k3_pay1]

/-- The latent attention's 256 rows of one head: the row's softmax to base two over all 2048 keys, applied to the values,
    times the silu of the gate. -/
theorem attn_pay (k : Vec Ideal S2048x256 .bf16) (v : Vec Ideal S2048x128 .bf16) (q : Vec Ideal S256x256 .bf16)
    (z : Vec Ideal S1x256x128 .bf16) (r : Fin 256) (d : Fin 128) :
    k2_pay6 (F := Ideal) k v q z (ix2 r d)
      = Ideal.div
          (∑ j : Fin 2048, Ideal.exp2 ((∑ l : Fin 256, q (ix2 r l) * k (ix2 j l))
              - Finset.univ.fold max (⊥ : EReal) (fun j : Fin 2048 => ∑ l : Fin 256, q (ix2 r l) * k (ix2 j l))) * v (ix2 j d))
          (∑ j : Fin 2048, Ideal.exp2 ((∑ l : Fin 256, q (ix2 r l) * k (ix2 j l))
              - Finset.univ.fold max (⊥ : EReal) (fun j : Fin 2048 => ∑ l : Fin 256, q (ix2 r l) * k (ix2 j l))))
        * (z (ix3 0 r d) * logistic (z (ix3 0 r d))) := by
  rw [← logistic_exp2]
  pointwise [k2_pay6, k2_pay3, k2_pay4, named_neg_log2e, ofBits_neg_inf]
  rfl

/-- The merge gates of 256 rows: the sigmoid of the normalised row times the weights. -/
theorem gates_pay (x : Vec Ideal S256x1024 .f32) (g : Vec Ideal S1x1024 .f32) (w : Vec Ideal S1024x3072 .bf16)
    (r : Fin 256) (c : Fin 3072) :
    k4_pay5 (F := Ideal) x g w (ix2 r c)
      = logistic (∑ k : Fin 1024, rms (Ideal.ofBits .f32 0x44800000#32) (fun k => x (ix2 r k)) (fun k => g (ix2 0 k)) k * w (ix2 k c)) := by
  rw [← logistic_exp2]
  unfold rms
  pointwise [k4_pay5, k4_pay4, named_neg_log2e]
  rfl

/-- The three branches, each projected and weighted by its gate, added. -/
theorem merge_pay (gates : Vec Ideal S256x3072 .f32) (om : Vec Ideal S256x512 .bf16) (og : Vec Ideal S256x1024 .bf16)
    (wbg : Vec Ideal S1024x1024 .bf16) (ol : Vec Ideal S256x1024 .bf16) (wbm : Vec Ideal S1024x1024 .bf16)
    (wbe : Vec Ideal S512x1024 .bf16) (r : Fin 256) (c : Fin 1024) :
    k4_pay32 (F := Ideal) gates om og wbg ol wbm wbe (ix2 r c)
      = gates (ix2 r ⟨c, by omega⟩) * (∑ k : Fin 1024, og (ix2 r k) * wbg (ix2 k c))
        + gates (ix2 r ⟨1024 + c, by omega⟩) * (∑ k : Fin 1024, ol (ix2 r k) * wbm (ix2 k c))
        + gates (ix2 r ⟨2048 + c, by omega⟩) * (∑ k : Fin 512, om (ix2 r k) * wbe (ix2 k c)) := by
  pointwise [k4_pay32]

/-- The residual row plus the projected merge, normalised. -/
theorem final_pay (x : Vec Ideal S256x1024 .f32) (m : Vec Ideal S256x1024 .bf16) (wo : Vec Ideal S1024x1024 .bf16)
    (g : Vec Ideal S1x1024 .f32) (r : Fin 256) (c : Fin 1024) :
    k4_pay2 (F := Ideal) x m wo g (ix2 r c)
      = rms (Ideal.ofBits .f32 0x44800000#32) (fun c : Fin 1024 => x (ix2 r c) + ∑ k : Fin 1024, m (ix2 r k) * wo (ix2 k c))
          (fun k => g (ix2 0 k)) c := by
  unfold rms
  pointwise [k4_pay2]

/-- The memory attention's 256 rows of the four heads side by side, as the closing kernel's second half computes them. -/
def memTile (kv : Vec Ideal S1x256x1024 .bf16) (z : Vec Ideal S1x256x1024 .bf16) : FVec Ideal S256x512 .bf16 :=
  k4_pay29 (k4_pay3 kv) (k4_pay20 z) (k4_pay21 (k4_pay3 kv) z)
    (k4_pay26 (k4_pay20 z) (k4_pay23 (k4_pay3 kv) z) (k4_pay24 (k4_pay3 kv) z) (k4_pay25 (k4_pay3 kv)))
    (k4_pay27 (k4_pay3 kv) (k4_pay20 z)) (k4_pay28 (k4_pay3 kv) (k4_pay20 z))

/-- The closing kernel's first half computes the memory attention the same way. -/
theorem memTile_first (kv : Vec Ideal S1x256x1024 .bf16) (z : Vec Ideal S1x256x1024 .bf16) :
    k4_pay19 (k4_pay3 kv) (k4_pay11 z)
      (k4_pay15 (k4_pay12 (k4_pay3 kv) z) (k4_pay13 z) (k4_pay14 z) (Scalar.ofBits .f32 0x3F800000#32))
      (k4_pay16 (k4_pay3 kv) (k4_pay11 z)) (k4_pay17 (k4_pay3 kv) (k4_pay11 z)) (k4_pay18 (k4_pay3 kv) (k4_pay11 z))
      = memTile kv z := rfl

/-- The memory attention of a row at a column: the attention of the column's head, times the silu of the gate. -/
theorem memTile_apply (kv : Vec Ideal S1x256x1024 .bf16) (z : Vec Ideal S1x256x1024 .bf16) (r : Fin 256) (c : Fin 512) :
    memTile kv z (ix2 r c)
      = attn (fun j : Fin 256 => (∑ d : Fin 128, z (ix3 0 r ⟨512 + c / 128 * 128 + d, by omega⟩)
              * kv (ix3 0 j ⟨c / 128 * 128 + d, by omega⟩)) * Ideal.ofBits .f32 0x3DB504F3#32)
          (fun j => kv (ix3 0 j ⟨512 + c, by omega⟩))
        * (z (ix3 0 r ⟨c, by omega⟩) * logistic (z (ix3 0 r ⟨c, by omega⟩))) := by
  rw [← logistic_exp2]
  unfold attn memTile
  pointwise [k4_pay29, k4_pay3, k4_pay20, k4_pay21, k4_pay26, k4_pay23, k4_pay24, k4_pay25, k4_pay27, k4_pay28, k4_pay22, named_neg_log2e, ofBits_neg_inf]
  by_cases h1 : (c : ℕ) < 128
  · rw [dif_pos h1]
    have e : (c : ℕ) / 128 * 128 = 0 := by omega
    simp only [e, Nat.add_zero, Nat.zero_add]
    rfl
  rw [dif_neg h1]
  by_cases h2 : (c : ℕ) - 128 < 128
  · rw [dif_pos h2]
    have e : (c : ℕ) / 128 * 128 = 128 := by omega
    have f1 : 640 + ((c : ℕ) - 128) = 512 + c := by omega
    have f2 : 128 + ((c : ℕ) - 128) = c := by omega
    simp only [e, f1, f2, Nat.reduceAdd]
    rfl
  rw [dif_neg h2]
  by_cases h3 : (c : ℕ) - 128 - 128 < 128
  · rw [dif_pos h3]
    have e : (c : ℕ) / 128 * 128 = 256 := by omega
    have f1 : 768 + ((c : ℕ) - 128 - 128) = 512 + c := by omega
    have f2 : 256 + ((c : ℕ) - 128 - 128) = c := by omega
    simp only [e, f1, f2, Nat.reduceAdd]
    rfl
  · rw [dif_neg h3]
    have e : (c : ℕ) / 128 * 128 = 384 := by omega
    have f1 : 896 + ((c : ℕ) - 128 - 128 - 128) = 512 + c := by omega
    have f2 : 384 + ((c : ℕ) - 128 - 128 - 128) = c := by omega
    simp only [e, f1, f2, Nat.reduceAdd]
    rfl

end Cert.Layer

end
-- ==== Proof.Region0.lean ====
/- The projection kernel: its result as one function of the arrays it reads. -/
module

public import proofs.«01_k».proof.Proof.Gen.KernelIdeal.Frame
public import proofs.«01_k».proof.Proof.Tiles
public import Idealize.ShloMosaic.Lib.Pipeline.ValueKit

@[expose] public section

set_option maxRecDepth 16384

noncomputable section

namespace Cert.Layer

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem idx0_0 : ∀ t : Fin grid0.N, win0_0.index t = ![t.val % 128, 0] := by decide +kernel
theorem idx0_1 : ∀ t : Fin grid0.N, win0_1.index t = ![0, 0] := by decide +kernel
theorem idx0_2 : ∀ t : Fin grid0.N, win0_2.index t = ![t.val / 128, 0, 0] := by decide +kernel
theorem idx0_3 : ∀ t : Fin grid0.N, win0_3.index t = ![t.val / 128, t.val % 128, 0] := by decide +kernel

/-- The projection kernel's result, at every index. -/
def projArr (x : S65536x1024.Idx → EReal) (g : S1x1024.Idx → EReal) (w : S2x1024x3072.Idx → EReal) : S2x65536x3072.Idx → EReal := fun i =>
  ∑ k : Fin 1024, rms (Ideal.ofBits .f32 0x44800000#32) (fun k => x (ix2 (i 1) k)) (fun k => g (ix2 0 k)) k * w (ix3 (i 0) k (i 2))

/-- The array that the projection kernel leaves. -/
theorem proj_arr (c : Dev nD) :
    (dat0 V c).arrAt 3 cfg0.N = projArr (V c main_v74) (V c main_v44) (V c main_v16) := by
  refine (dat0 V c).arrAt_eq_of_covers 3 _ (by decide +kernel) fun t hf y => ?_
  blk_simp
  rw [after0_3]
  frame_out
  refine (proj_pay _ _ _ y).trans ?_
  unfold projArr
  blk_point [iblk0, idx0_0 t, idx0_1 t, idx0_2 t, idx0_3 t]

end Cert.Layer

end
-- ==== Proof.Chunks.lean ====
/- The decays of the delta rule, summed along each chunk of 64 rows in either direction, as the preparation kernel
   computes them on a tile of 512 rows: six steps, each adding the row 1, 2, 4, … rows away inside the chunk. -/
module

public import proofs.«01_k».proof.Proof.Gen.KernelIdeal.Skeleton
public import proofs.«01_k».proof.Proof.Extended
public import proofs.«01_k».proof.Proof.Named
public import Idealize.ShloMosaic.Lib.Pointwise

@[expose] public section

set_option maxRecDepth 16384

noncomputable section

namespace Cert.Layer

open Idealize.ShloMosaic Idealize.SL.Sem
open Cert.KernelIdeal Cert.KernelIdeal.Gen

/-! ## Windowed sums by doubling -/

/-- The sum of the last w rows up to row r, inside the chunk of row r. -/
def back (g : ℕ → EReal) (w r : ℕ) : EReal := ∑ i ∈ Finset.range w, if i ≤ r % 64 then g (r - i) else 0

/-- The sum of the next w rows from row r on, inside the chunk of row r. -/
def ahead (g : ℕ → EReal) (w r : ℕ) : EReal := ∑ i ∈ Finset.range w, if r % 64 + i < 64 then g (r + i) else 0

/-- The window of one row backwards is the row itself. -/
theorem back_one (g : ℕ → EReal) (r : ℕ) : back g 1 r = g r := by simp [back]

/-- The window of one row ahead is the row itself. -/
theorem ahead_one (g : ℕ → EReal) (r : ℕ) : ahead g 1 r = g r := by
  have h : r % 64 < 64 := Nat.mod_lt _ (by norm_num)
  simp [ahead, h]

/-- Adding the window that ends just before doubles a window backwards, unless it would leave the chunk. -/
theorem back_double (g : ℕ → EReal) (w r : ℕ) (hw : w < 64) :
    back g w r + (if w ≤ r % 64 then back g w (r - w) else 0) = back g (w + w) r := by
  unfold back
  rw [Finset.sum_range_add]
  congr 1
  split_ifs with h
  · refine Finset.sum_congr rfl fun i _ => ?_
    have e : (r - w) % 64 = r % 64 - w := by omega
    rw [e, Nat.sub_sub]
    exact if_congr (by omega) rfl rfl
  · symm
    refine Finset.sum_eq_zero fun i _ => if_neg (by omega)

/-- Adding the window that begins just after doubles a window ahead, unless it would leave the chunk. -/
theorem ahead_double (g : ℕ → EReal) (w r : ℕ) :
    ahead g w r + (if r % 64 + w < 64 then ahead g w (r + w) else 0) = ahead g (w + w) r := by
  unfold ahead
  rw [Finset.sum_range_add]
  congr 1
  split_ifs with h
  · refine Finset.sum_congr rfl fun i _ => ?_
    have e : (r + w) % 64 = r % 64 + w := by omega
    rw [e, Nat.add_assoc, Nat.add_assoc]
  · symm
    refine Finset.sum_eq_zero fun i _ => if_neg (by omega)

/-- All 64 rows back: the sum over the chunk of the rows up to r. -/
theorem back_chunk (g : ℕ → EReal) (r : ℕ) :
    back g 64 r = ∑ j : Fin 64, g (r / 64 * 64 + j) * (if (j : ℕ) ≤ r % 64 then 1 else 0) := by
  have hm : r % 64 < 64 := Nat.mod_lt _ (by norm_num)
  have hr : r / 64 * 64 + r % 64 = r := by omega
  unfold back
  rw [Fin.sum_univ_eq_sum_range (fun j => g (r / 64 * 64 + j) * (if j ≤ r % 64 then 1 else 0)) 64]
  simp only [mul_ite, mul_one, mul_zero]
  rw [← Finset.sum_filter, ← Finset.sum_filter]
  have e : (Finset.range 64).filter (fun i => i ≤ r % 64) = Finset.range (r % 64 + 1) := by
    ext i; simp only [Finset.mem_filter, Finset.mem_range]; omega
  rw [e, ← Finset.sum_range_reflect]
  refine Finset.sum_congr rfl fun i hi => ?_
  have := Finset.mem_range.mp hi
  congr 1
  omega

/-- All 64 rows ahead: the sum over the chunk of the rows from r on. -/
theorem ahead_chunk (g : ℕ → EReal) (r : ℕ) :
    ahead g 64 r = ∑ j : Fin 64, g (r / 64 * 64 + j) * (if r % 64 ≤ (j : ℕ) then 1 else 0) := by
  have hm : r % 64 < 64 := Nat.mod_lt _ (by norm_num)
  unfold ahead
  rw [Fin.sum_univ_eq_sum_range (fun j => g (r / 64 * 64 + j) * (if r % 64 ≤ j then 1 else 0)) 64]
  simp only [mul_ite, mul_one, mul_zero]
  rw [← Finset.sum_filter, ← Finset.sum_filter]
  refine Finset.sum_bij (fun i _ => r % 64 + i) ?_ ?_ ?_ ?_
  · intro i hi; simp only [Finset.mem_filter, Finset.mem_range] at hi ⊢; omega
  · intro i _ j _ h; omega
  · intro j hj
    simp only [Finset.mem_filter, Finset.mem_range] at hj
    exact ⟨j - r % 64, by simp only [Finset.mem_filter, Finset.mem_range]; omega, by omega⟩
  · intro i _; congr 1; omega

/-! ## One step on the tile -/

/-- The kernel's word for a row's place in its chunk. -/
theorem row_word (r : Fin 512) (l : Fin 128) : (k1_pay44 : IVec S512x128 32) (ix2 r l) = BitVec.ofNat 32 (r % 64) := by
  pointwise [k1_pay44]
  revert r
  decide +kernel

/-- One step back by s rows. -/
def stepBack (s : BitVec 32) (f : FVec Ideal S512x128 .f32) : FVec Ideal S512x128 .f32 :=
  addf f (select (cmpi .sge k1_pay44 (broadcast S512x128 s)) (dynamicRotate 0 s none f rotates_S512x128_d0)
    (broadcast S512x128 (Scalar.ofBits .f32 0x00000000#32)))

/-- One step ahead: u is 64 − s and v is 512 − s. -/
def stepAhead (u v : BitVec 32) (f : FVec Ideal S512x128 .f32) : FVec Ideal S512x128 .f32 :=
  addf f (select (cmpi .slt k1_pay44 (broadcast S512x128 u)) (dynamicRotate 0 v none f rotates_S512x128_d0)
    (broadcast S512x128 (Scalar.ofBits .f32 0x00000000#32)))

/-- A selection by a signed comparison of small words, at least, is one by the numbers. -/
theorem sel_sge (s : ℕ) (hs : s ∈ [1, 2, 4, 8, 16, 32]) (m : Fin 64) (a b : EReal) :
    Scalar.select (IntOp.cmpi .sge (BitVec.ofNat 32 m) (BitVec.ofNat 32 s)) a b = if s ≤ m then a else b := by
  have h : ∀ s ∈ [1, 2, 4, 8, 16, 32], ∀ m : Fin 64, IntOp.cmpi .sge (BitVec.ofNat 32 m) (BitVec.ofNat 32 s)
      = if s ≤ m then 1#1 else 0#1 := by decide +kernel
  rw [h s hs m]
  split_ifs <;> rfl

/-- A selection by a signed comparison of small words, less than, is one by the numbers. -/
theorem sel_slt (s : ℕ) (hs : s ∈ [8, 16, 32, 48, 56, 60, 62, 63, 64]) (m : Fin 128) (a b : EReal) :
    Scalar.select (IntOp.cmpi .slt (BitVec.ofNat 32 m) (BitVec.ofNat 32 s)) a b = if (m : ℕ) < s then a else b := by
  have h : ∀ s ∈ [8, 16, 32, 48, 56, 60, 62, 63, 64], ∀ m : Fin 128, IntOp.cmpi .slt (BitVec.ofNat 32 m) (BitVec.ofNat 32 s)
      = if (m : ℕ) < s then 1#1 else 0#1 := by decide +kernel
  rw [h s hs m]
  split_ifs <;> rfl

/-- A column of a tile as a function of the natural row number. -/
def col (f : FVec Ideal S512x128 .f32) (l : Fin 128) (n : ℕ) : EReal := f (ix2 ⟨n % 512, Nat.mod_lt _ (by norm_num)⟩ l)

/-- A lane's column read at a row of the tile. -/
theorem col_val (f : FVec Ideal S512x128 .f32) (l : Fin 128) (r : Fin 512) : col f l r = f (ix2 r l) := by
  unfold col; congr 2; exact Fin.ext (Nat.mod_eq_of_lt r.2)

/-- One step backwards at an index. -/
theorem stepBack_apply (s : ℕ) (hs : s ∈ [1, 2, 4, 8, 16, 32]) (f : FVec Ideal S512x128 .f32) (r : Fin 512) (l : Fin 128) :
    stepBack (BitVec.ofNat 32 s) f (ix2 r l) = f (ix2 r l) + if s ≤ (r : ℕ) % 64 then col f l (r - s) else 0 := by
  simp only [List.mem_cons, List.not_mem_nil, or_false] at hs
  rcases hs with rfl | rfl | rfl | rfl | rfl | rfl <;>
  · pointwise [stepBack, row_word]
    refine congrArg (f (ix2 r l) + ·) ((sel_sge _ (by decide) ⟨(r : ℕ) % 64, Nat.mod_lt _ (by norm_num)⟩ _ _).trans ?_)
    refine ite_congr rfl (fun h => ?_) fun _ => rfl
    unfold col
    exact congrArg (fun a => f (ix2 a l)) (Fin.ext (by dsimp only at h ⊢; omega))

/-- One step ahead at an index. -/
theorem stepAhead_apply (s : ℕ) (hs : s ∈ [1, 2, 4, 8, 16, 32]) (f : FVec Ideal S512x128 .f32) (r : Fin 512) (l : Fin 128) :
    stepAhead (BitVec.ofNat 32 (64 - s)) (BitVec.ofNat 32 (512 - s)) f (ix2 r l)
      = f (ix2 r l) + if (r : ℕ) % 64 + s < 64 then col f l (r + s) else 0 := by
  simp only [List.mem_cons, List.not_mem_nil, or_false] at hs
  rcases hs with rfl | rfl | rfl | rfl | rfl | rfl <;>
  · simp only [Nat.reduceSub]
    pointwise [stepAhead, row_word]
    refine congrArg (f (ix2 r l) + ·)
      ((sel_slt _ (by decide) ⟨(r : ℕ) % 64, lt_of_lt_of_le (Nat.mod_lt _ (by norm_num)) (by norm_num)⟩ _ _).trans ?_)
    refine if_congr (by dsimp only; omega) ?_ rfl
    unfold col
    exact congrArg (fun a => f (ix2 a l)) (Fin.ext (by dsimp only; omega))

/-- Six steps back. -/
def scanBack (g : FVec Ideal S512x128 .f32) : FVec Ideal S512x128 .f32 :=
  stepBack 32#32 (stepBack 16#32 (stepBack 8#32 (stepBack 4#32 (stepBack 2#32 (stepBack 1#32 g)))))

/-- Six steps ahead. -/
def scanAhead (g : FVec Ideal S512x128 .f32) : FVec Ideal S512x128 .f32 :=
  stepAhead 32#32 480#32 (stepAhead 48#32 496#32 (stepAhead 56#32 504#32 (stepAhead 60#32 508#32
    (stepAhead 62#32 510#32 (stepAhead 63#32 511#32 g)))))

/-- One step backwards doubles the window. -/
theorem stepBack_back (s : ℕ) (hs : s ∈ [1, 2, 4, 8, 16, 32]) (h64 : s < 64) (g f : FVec Ideal S512x128 .f32) (l : Fin 128)
    (hf : ∀ r : Fin 512, f (ix2 r l) = back (col g l) s r) (r : Fin 512) :
    stepBack (BitVec.ofNat 32 s) f (ix2 r l) = back (col g l) (s + s) r := by
  rw [stepBack_apply s hs, hf, ← back_double _ _ _ h64]
  refine congrArg (back (col g l) s r + ·) ?_
  by_cases h : s ≤ (r : ℕ) % 64
  · rw [if_pos h, if_pos h]
    have := r.2
    have e : ((r : ℕ) - s) % 512 = r - s := Nat.mod_eq_of_lt (by omega)
    exact (hf _).trans (congrArg (back (col g l) s) e)
  · rw [if_neg h, if_neg h]

/-- One step ahead doubles the window. -/
theorem stepAhead_ahead (s : ℕ) (hs : s ∈ [1, 2, 4, 8, 16, 32]) (g f : FVec Ideal S512x128 .f32) (l : Fin 128)
    (hf : ∀ r : Fin 512, f (ix2 r l) = ahead (col g l) s r) (r : Fin 512) :
    stepAhead (BitVec.ofNat 32 (64 - s)) (BitVec.ofNat 32 (512 - s)) f (ix2 r l) = ahead (col g l) (s + s) r := by
  rw [stepAhead_apply s hs, hf, ← ahead_double]
  refine congrArg (ahead (col g l) s r + ·) ?_
  by_cases h : (r : ℕ) % 64 + s < 64
  · rw [if_pos h, if_pos h]
    have := r.2
    have e : ((r : ℕ) + s) % 512 = r + s := Nat.mod_eq_of_lt (by omega)
    exact (hf _).trans (congrArg (ahead (col g l) s) e)
  · rw [if_neg h, if_neg h]

/-- Six steps back sum the chunk up to the row. -/
theorem scanBack_apply (g : FVec Ideal S512x128 .f32) (r : Fin 512) (l : Fin 128) :
    scanBack g (ix2 r l) = ∑ j : Fin 64, g (ix2 ⟨(r : ℕ) / 64 * 64 + j, by omega⟩ l) * (if (j : ℕ) ≤ (r : ℕ) % 64 then 1 else 0) := by
  have h1 := stepBack_back 1 (by decide) (by norm_num) g g l fun r => by rw [back_one, col_val]
  have h2 := stepBack_back 2 (by decide) (by norm_num) g _ l h1
  have h3 := stepBack_back 4 (by decide) (by norm_num) g _ l h2
  have h4 := stepBack_back 8 (by decide) (by norm_num) g _ l h3
  have h5 := stepBack_back 16 (by decide) (by norm_num) g _ l h4
  have h6 := stepBack_back 32 (by decide) (by norm_num) g _ l h5
  refine (h6 r).trans ((back_chunk _ _).trans (Finset.sum_congr rfl fun j _ => ?_))
  exact congrArg (· * _) (col_val g l ⟨(r : ℕ) / 64 * 64 + j, by omega⟩)

/-- Six steps ahead sum the chunk from the row on. -/
theorem scanAhead_apply (g : FVec Ideal S512x128 .f32) (r : Fin 512) (l : Fin 128) :
    scanAhead g (ix2 r l) = ∑ j : Fin 64, g (ix2 ⟨(r : ℕ) / 64 * 64 + j, by omega⟩ l) * (if (r : ℕ) % 64 ≤ (j : ℕ) then 1 else 0) := by
  have h1 := stepAhead_ahead 1 (by decide) g g l fun r => by rw [ahead_one, col_val]
  have h2 := stepAhead_ahead 2 (by decide) g _ l h1
  have h3 := stepAhead_ahead 4 (by decide) g _ l h2
  have h4 := stepAhead_ahead 8 (by decide) g _ l h3
  have h5 := stepAhead_ahead 16 (by decide) g _ l h4
  have h6 := stepAhead_ahead 32 (by decide) g _ l h5
  refine (h6 r).trans ((ahead_chunk _ _).trans (Finset.sum_congr rfl fun j _ => ?_))
  exact congrArg (· * _) (col_val g l ⟨(r : ℕ) / 64 * 64 + j, by omega⟩)

/-! ## The tile of decays and betas -/

/-- The decay of every row and lane before it is summed. -/
def decay (ab : FVec Ideal S512x128 .f32) (dtb alog : FVec Ideal S1x128 .f32) : FVec Ideal S512x128 .f32 :=
  k1_pay42 (k1_pay40 ab dtb) (k1_pay41 ab dtb) (Scalar.ofBits .f32 0x3F800000#32) alog

/-- The decay at an index. -/
theorem decay_apply (ab : FVec Ideal S512x128 .f32) (dtb alog : FVec Ideal S1x128 .f32) (r : Fin 512) (l : Fin 128) :
    decay ab dtb alog (ix2 r l) = -Ideal.exp (alog (ix2 0 l)) * softplus (ab (ix2 r l) + dtb (ix2 0 l)) := by
  unfold decay softplus
  pointwise [k1_pay42, k1_pay41, k1_pay40, k1_pay39]
  simp only [sub_eq_add_neg, zero_add]
  rfl

/-- The lanes choose: the sums back, the sums ahead, the betas, zeros. -/
def lanes (a b c : FVec Ideal S512x128 .f32) : FVec Ideal S512x128 .f32 :=
  select (cmpi .slt (iota .tc S512x128 32 [1] iota_S512x128_d1_w32) (broadcast S512x128 8#32)) a
    (select (cmpi .slt (iota .tc S512x128 32 [1] iota_S512x128_d1_w32) (broadcast S512x128 16#32)) b
      (select (cmpi .slt (iota .tc S512x128 32 [1] iota_S512x128_d1_w32) (broadcast S512x128 32#32)) c
        (broadcast S512x128 (Scalar.ofBits .f32 0x00000000#32))))

/-- The four groups of lanes at an index. -/
theorem lanes_apply (a b c : FVec Ideal S512x128 .f32) (r : Fin 512) (l : Fin 128) :
    lanes a b c (ix2 r l) = if (l : ℕ) < 8 then a (ix2 r l) else if (l : ℕ) < 16 then b (ix2 r l)
      else if (l : ℕ) < 32 then c (ix2 r l) else 0 := by
  pointwise [lanes]
  refine (sel_slt 8 (by decide) l _ _).trans (ite_congr rfl (fun _ => rfl) fun _ => ?_)
  refine (sel_slt 16 (by decide) l _ _).trans (ite_congr rfl (fun _ => rfl) fun _ => ?_)
  exact sel_slt 32 (by decide) l _ _

/-- The kernel's decays and betas on a tile are the two scans and the sigmoid, side by side. -/
theorem gb_tile (ab : FVec Ideal S512x128 .f32) (dtb alog : FVec Ideal S1x128 .f32) :
    k1_pay49 (F := Ideal) (iota .tc S512x128 32 [1] iota_S512x128_d1_w32) (k1_pay43 ab) k1_pay44
      (k1_pay47 k1_pay44 (k1_pay45 (k1_pay40 ab dtb) (k1_pay41 ab dtb) (Scalar.ofBits .f32 0x3F800000#32) alog))
      (k1_pay48 (decay ab dtb alog) k1_pay44 k1_pay46 511#32) 16#32
      = lanes (scanBack (decay ab dtb alog)) (scanAhead (decay ab dtb alog)) (k1_pay43 ab) := rfl

/-- The beta at an index is the sigmoid of its logit. -/
theorem beta_apply (ab : FVec Ideal S512x128 .f32) (r : Fin 512) (l : Fin 128) :
    k1_pay43 (F := Ideal) ab (ix2 r l) = logistic (ab (ix2 r l)) := by
  rw [← logistic_exp2]
  pointwise [k1_pay43, named_neg_log2e]
  rfl

end Cert.Layer

end
-- ==== Proof.Prep.lean ====
/- The preparation kernel's four results on a tile of 512 rows, row by row: the queries (their rotary lanes rotated
   and everything scaled), the keys, the values, and the summed decays with the betas. -/
module

public import proofs.«01_k».proof.Proof.Gen.KernelIdeal.Frame
public import proofs.«01_k».proof.Proof.Chunks
public import Idealize.ShloMosaic.Lib.Pipeline.ValueKit

@[expose] public section

set_option maxRecDepth 16384

noncomputable section

namespace Cert.Layer

open Idealize.ShloMosaic Idealize.ShloMosaic.TcCoe Idealize.SL.Sem
open Cert.KernelIdeal Cert.KernelIdeal.Gen

/-! ## One row -/

/-- A row normalised and multiplied into a column. -/
def dotRms {n : Nat} (N : EReal) (x g w : Fin n → EReal) : EReal := ∑ k, rms N x g k * w k

/-- Column c of the small projection of a row. -/
def rowSmall (x : Fin 1024 → EReal) (g : S1x1024.Idx → EReal) (w : S1024x896.Idx → EReal) (c : Fin 896) : EReal :=
  dotRms (Ideal.ofBits .f32 0x44800000#32) x (fun k => g (ix2 0 k)) (fun k => w (ix2 k c))

/-- Column c of the queries of a row, before rotation and scale. -/
def rowQ (x : Fin 1024 → EReal) (g : S1x1024.Idx → EReal) (w : S1024x896.Idx → EReal) (qg : S1x384.Idx → EReal)
    (wq : S384x2048.Idx → EReal) (c : Fin 2048) : EReal :=
  dotRms (Ideal.ofBits .f32 0x43C00000#32) (fun j : Fin 384 => rowSmall x g w ⟨j, by omega⟩) (fun j => qg (ix2 0 j))
    (fun j => wq (ix2 j c))

/-- Column c of the keys and values of a row. -/
def rowKV (x : Fin 1024 → EReal) (g : S1x1024.Idx → EReal) (w : S1024x896.Idx → EReal) (kvg : S1x256.Idx → EReal)
    (wkv : S256x2048.Idx → EReal) (c : Fin 2048) : EReal :=
  dotRms (Ideal.ofBits .f32 0x43800000#32) (fun j : Fin 256 => rowSmall x g w ⟨384 + j, by omega⟩) (fun j => kvg (ix2 0 j))
    (fun j => wkv (ix2 j c))

/-- Rotation by a table: each of 128 lanes times the table, plus the lane half a turn away. -/
def turn (q tab : Fin 128 → EReal) (m : Fin 128) : EReal :=
  q m * tab m + q ⟨(m + 128 - 64) % 128, Nat.mod_lt _ (by norm_num)⟩ * tab ⟨(m + 128 - 64) % 128, Nat.mod_lt _ (by norm_num)⟩

/-- Lane c of the queries: 128 scaled lanes, then 128 turned lanes, head by head. -/
def laneQ (q : Fin 2048 → EReal) (tab : Fin 128 → EReal) (c : Fin 2048) : EReal :=
  if c.val % 256 < 128 then q c * (((Real.sqrt 192)⁻¹ * (Real.log 2)⁻¹ : ℝ) : EReal)
  else turn (fun m => q ⟨c / 256 * 256 + 128 + m, by omega⟩) tab ⟨c % 256 - 128, by omega⟩

/-- Lane c of the keys: 128 lanes of the head, then the turned lanes shared by the heads, zero from 64 on. -/
def laneK (kv : Fin 2048 → EReal) (pe tab : Fin 128 → EReal) (c : Fin 2048) : EReal :=
  if c.val % 256 < 128 then kv ⟨c / 256 * 128 + c % 256 % 128, by omega⟩
  else if c.val % 256 - 128 < 64 then turn pe tab ⟨c % 256 - 128, by omega⟩ else 0

/-- A plain lane of a head of the queries. -/
theorem laneQ_nope (q : Fin 2048 → EReal) (tab : Fin 128 → EReal) (o : ℕ) (ho : o % 256 = 0) (c : Fin 2048) (m : Fin 128)
    (h : (c : ℕ) = o + m) : laneQ q tab c = q ⟨o + m, by omega⟩ * (((Real.sqrt 192)⁻¹ * (Real.log 2)⁻¹ : ℝ) : EReal) := by
  unfold laneQ
  rw [if_pos (by omega)]
  exact congrArg (q · * _) (Fin.ext h)

/-- A rotated lane of a head of the queries. -/
theorem laneQ_pe (q : Fin 2048 → EReal) (tab : Fin 128 → EReal) (o : ℕ) (ho : o % 256 = 128) (c : Fin 2048) (m : Fin 128)
    (h : (c : ℕ) = o + m) : laneQ q tab c = turn (fun m => q ⟨o + m, by omega⟩) tab m := by
  unfold laneQ
  rw [if_neg (by omega)]
  have e : (⟨c % 256 - 128, by omega⟩ : Fin 128) = m := Fin.ext (by dsimp only; omega)
  have e2 : (c : ℕ) / 256 * 256 + 128 = o := by omega
  simp only [e, e2]

/-- A plain lane of a head of the keys. -/
theorem laneK_nope (kv : Fin 2048 → EReal) (pe tab : Fin 128 → EReal) (o : ℕ) (ho : o % 256 = 0) (c : Fin 2048)
    (m : Fin 128) (h : (c : ℕ) = o + m) : laneK kv pe tab c = kv ⟨o / 2 + m, by omega⟩ := by
  unfold laneK
  rw [if_pos (by omega)]
  exact congrArg kv (Fin.ext (by dsimp only; omega))

/-- A rotated lane of a head of the keys, or a zero. -/
theorem laneK_pe (kv : Fin 2048 → EReal) (pe tab : Fin 128 → EReal) (o : ℕ) (ho : o % 256 = 128) (c : Fin 2048) (m : Fin 128)
    (h : (c : ℕ) = o + m) : laneK kv pe tab c = if (m : ℕ) < 64 then turn pe tab m else 0 := by
  unfold laneK
  have e : (⟨c % 256 - 128, by omega⟩ : Fin 128) = m := Fin.ext (by dsimp only; omega)
  have e2 : (c : ℕ) % 256 - 128 = m := by omega
  rw [if_neg (by omega), e, e2]

/-! ## The payloads -/

/-- The small projection of a row. -/
theorem small_pay (x : Vec Ideal S512x1024 .f32) (g : Vec Ideal S1x1024 .f32) (w : Vec Ideal S1024x896 .bf16)
    (r : Fin 512) (c : Fin 896) : k1_pay1 (F := Ideal) x g w (ix2 r c) = rowSmall (fun k => x (ix2 r k)) g w c := by
  unfold rowSmall dotRms rms
  pointwise [k1_pay1]

/-- The queries of a row, before the scale and the rotation. -/
theorem q_pay (x : Vec Ideal S512x1024 .f32) (g : Vec Ideal S1x1024 .f32) (w : Vec Ideal S1024x896 .bf16)
    (qg : Vec Ideal S1x384 .f32) (wq : Vec Ideal S384x2048 .bf16) (r : Fin 512) (c : Fin 2048) :
    k1_pay7 (F := Ideal) (k1_pay5 x g w qg) (k1_pay6 wq) (constant S512x2048 .f32 0x00000000#32) (ix2 r c)
      = rowQ (fun k => x (ix2 r k)) g w qg wq c := by
  unfold rowQ dotRms rms
  simp only [← small_pay]
  pointwise [k1_pay7, k1_pay5, k1_pay6]

/-- The keys and values of a row, before the rotation. -/
theorem kv_pay (x : Vec Ideal S512x1024 .f32) (g : Vec Ideal S1x1024 .f32) (w : Vec Ideal S1024x896 .bf16)
    (kvg : Vec Ideal S1x256 .f32) (wkv : Vec Ideal S256x2048 .bf16) (r : Fin 512) (c : Fin 2048) :
    k1_pay27 (F := Ideal) (k1_pay26 (k1_pay2 x g w) kvg) wkv (ix2 r c) = rowKV (fun k => x (ix2 r k)) g w kvg wkv c := by
  unfold rowKV dotRms rms
  simp only [← small_pay]
  pointwise [k1_pay27, k1_pay26, k1_pay2]

/-- The shared rotated key of a row, with its zeros. -/
theorem pe_pay (p : FVec Ideal S512x128 .f32) (tab : Vec Ideal S512x128 .f32) (r : Fin 512) (m : Fin 128) :
    k1_pay28 (F := Ideal) p tab (ix2 r m)
      = if (m : ℕ) < 64 then turn (fun m => p (ix2 r m)) (fun m => tab (ix2 r m)) m else 0 := by
  unfold turn
  pointwise [k1_pay28]
  exact sel_slt 64 (by decide) m _ _

/-- The lanes of the small projection that hold the shared key. -/
theorem pe_eq (x : Vec Ideal S512x1024 .f32) (g : Vec Ideal S1x1024 .f32) (w : Vec Ideal S1024x896 .bf16) (r : Fin 512)
    (m : Fin 128) : k1_pay3 (F := Ideal) x g w (ix2 r m) = rowSmall (fun k => x (ix2 r k)) g w ⟨640 + m, by omega⟩ := by
  rw [← small_pay]
  pointwise [k1_pay3]

/-- The lanes of the small projection that hold the logits of the decays and betas. -/
theorem ab_eq (x : Vec Ideal S512x1024 .f32) (g : Vec Ideal S1x1024 .f32) (w : Vec Ideal S1024x896 .bf16) (r : Fin 512)
    (l : Fin 128) : k1_pay4 (F := Ideal) x g w (ix2 r l) = rowSmall (fun k => x (ix2 r k)) g w ⟨768 + l, by omega⟩ := by
  rw [← small_pay]
  pointwise [k1_pay4]

section Tile

variable (a0 : Vec Ideal S512x1024 .f32) (a1 : Vec Ideal S1x1024 .f32) (a2 : Vec Ideal S1024x896 .bf16)
  (a3 : Vec Ideal S1x384 .f32) (a4 : Vec Ideal S1x256 .f32) (a5 : Vec Ideal S384x2048 .bf16)
  (a6 : Vec Ideal S256x2048 .bf16) (a7 a8 : Vec Ideal S512x128 .f32) (a9 a10 : Vec Ideal S1x128 .f32)

/-- The queries on a tile. -/
theorem q_tile (y : S512x2048.Idx) :
    out1_11 a0 a1 a2 a3 a4 a5 a6 a7 a8 a9 a10 y
      = laneQ (rowQ (fun k => a0 (ix2 (y 0) k)) a1 a2 a3 a5) (fun m => a7 (ix2 (y 0) m)) (y 1) := by
  have l0 : View.ld a0 r1_0 = a0 := View.ld_unit_lit' _ _ (by decide)
  have l1 : View.ld a1 r1_1 = a1 := View.ld_unit_lit' _ _ (by decide)
  have l2 : View.ld a2 r1_2 = a2 := View.ld_unit_lit' _ _ (by decide)
  have l3 : View.ld a3 r1_3 = a3 := View.ld_unit_lit' _ _ (by decide)
  have l5 : View.ld a5 r1_4 = a5 := View.ld_unit_lit' _ _ (by decide)
  have l7 : View.ld a7 r1_5 = a7 := View.ld_unit_lit' _ _ (by decide)
  unfold_out out1_11
  rw [l0, l1, l2, l3, l5, l7]
  canon_tiles x h
  on_goal 16 => rw [← Nat.zero_add (x 1 : ℕ)] at h1
  all_goals
    rw [show y 0 = x 0 from Fin.ext h0]
    first
    | refine Eq.trans ?_ (laneQ_nope _ _ _ (by decide) _ _ h1).symm
    | refine Eq.trans ?_ (laneQ_pe _ _ _ (by decide) _ _ h1).symm
      unfold turn
    idx_vars x
    pointwise [k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, named_q_scale]
    simp only [q_pay]

/-- The keys on a tile. -/
theorem k_tile (y : S512x2048.Idx) :
    out1_12 a0 a1 a2 a3 a4 a5 a6 a7 a8 a9 a10 y
      = laneK (rowKV (fun k => a0 (ix2 (y 0) k)) a1 a2 a4 a6) (fun m => rowSmall (fun k => a0 (ix2 (y 0) k)) a1 a2 ⟨640 + m, by omega⟩)
          (fun m => a8 (ix2 (y 0) m)) (y 1) := by
  have l0 : View.ld a0 r1_0 = a0 := View.ld_unit_lit' _ _ (by decide)
  have l1 : View.ld a1 r1_1 = a1 := View.ld_unit_lit' _ _ (by decide)
  have l2 : View.ld a2 r1_2 = a2 := View.ld_unit_lit' _ _ (by decide)
  have l4 : View.ld a4 r1_22 = a4 := View.ld_unit_lit' _ _ (by decide)
  have l6 : View.ld a6 r1_23 = a6 := View.ld_unit_lit' _ _ (by decide)
  have l8 : View.ld a8 r1_5 = a8 := View.ld_unit_lit' _ _ (by decide)
  unfold_out out1_12
  rw [l0, l1, l2, l4, l6, l8]
  canon_tiles x h
  on_goal 16 => rw [← Nat.zero_add (x 1 : ℕ)] at h1
  all_goals
    rw [show y 0 = x 0 from Fin.ext h0]
    first
    | refine Eq.trans ?_ (laneK_nope _ _ _ _ (by decide) _ _ h1).symm
    | refine Eq.trans ?_ (laneK_pe _ _ _ _ (by decide) _ _ h1).symm
    idx_vars x
    first
    | refine (pe_pay _ _ _ _).trans ?_
      simp only [pe_eq]
      rfl
    | pointwise [k1_pay29, k1_pay30, k1_pay31, k1_pay32, k1_pay33, k1_pay34, k1_pay35, k1_pay36, k1_pay37]
      exact kv_pay _ _ _ _ _ _ _

/-- The values on a tile. -/
theorem v_tile (y : S512x1024.Idx) :
    out1_13 a0 a1 a2 a3 a4 a5 a6 a7 a8 a9 a10 y
      = rowKV (fun k => a0 (ix2 (y 0) k)) a1 a2 a4 a6 ⟨1024 + y 1, by have h : (y 1 : ℕ) < 1024 := (y 1).isLt; omega⟩ := by
  idx_vars y
  have l0 : View.ld a0 r1_0 = a0 := View.ld_unit_lit' _ _ (by decide)
  have l1 : View.ld a1 r1_1 = a1 := View.ld_unit_lit' _ _ (by decide)
  have l2 : View.ld a2 r1_2 = a2 := View.ld_unit_lit' _ _ (by decide)
  have l4 : View.ld a4 r1_22 = a4 := View.ld_unit_lit' _ _ (by decide)
  have l6 : View.ld a6 r1_23 = a6 := View.ld_unit_lit' _ _ (by decide)
  unfold_out out1_13
  rw [l0, l1, l2, l4, l6]
  canon_tiles x h
  idx_vars x
  obtain rfl : y0 = x0 := Fin.ext h0
  obtain rfl : y1 = x1 := Fin.ext h1
  pointwise [k1_pay38]
  exact kv_pay _ _ _ _ _ _ _

/-- The decays and betas on a tile. -/
theorem gb_tile_apply :
    out1_14 a0 a1 a2 a3 a4 a5 a6 a7 a8 a9 a10
      = lanes (scanBack (decay (k1_pay4 a0 a1 a2) a10 a9)) (scanAhead (decay (k1_pay4 a0 a1 a2) a10 a9)) (k1_pay43 (k1_pay4 a0 a1 a2)) := by
  have l0 : View.ld a0 r1_0 = a0 := View.ld_unit_lit' _ _ (by decide)
  have l1 : View.ld a1 r1_1 = a1 := View.ld_unit_lit' _ _ (by decide)
  have l2 : View.ld a2 r1_2 = a2 := View.ld_unit_lit' _ _ (by decide)
  have l9 : View.ld a9 r1_24 = a9 := View.ld_unit_lit' _ _ (by decide)
  have l10 : View.ld a10 r1_24 = a10 := View.ld_unit_lit' _ _ (by decide)
  funext y
  rw [← gb_tile]
  unfold_out out1_14
  rw [l0, l1, l2, l9, l10]
  canon_tiles x h
  rw [show y = x from ?_]
  · rfl
  · idx_vars x
    idx_vars y
    obtain rfl : y0 = x0 := Fin.ext h0
    obtain rfl : y1 = x1 := Fin.ext h1
    rfl

end Tile

end Cert.Layer

end
-- ==== Proof.Region1.lean ====
/- The preparation kernel: its four results as functions of the arrays it reads. -/
module

public import proofs.«01_k».proof.Proof.Gen.KernelIdeal.Frame
public import proofs.«01_k».proof.Proof.Prep
public import Idealize.ShloMosaic.Lib.Pipeline.ValueKit

@[expose] public section

set_option maxRecDepth 16384

noncomputable section

namespace Cert.Layer

open Idealize.ShloMosaic Idealize.ShloMosaic.TcCoe Idealize.SL.Sem
open Cert.KernelIdeal Cert.KernelIdeal.Gen

/-- A row of a table read every 2048 rows. -/
def tabRow (tab : S2048x128.Idx → EReal) (r : ℕ) (m : Fin 128) : EReal := tab (ix2 ⟨r % 2048, Nat.mod_lt _ (by norm_num)⟩ m)

/-- Lane l of the decays and betas' columns of the small projection. -/
def abArr (x : S65536x1024.Idx → EReal) (g : S1x1024.Idx → EReal) (w : S1024x896.Idx → EReal) (r : Fin 65536) (l : Fin 128) : EReal :=
  rowSmall (fun k => x (ix2 r k)) g w ⟨768 + l, by omega⟩

/-- The log decay of a row and lane. -/
def decArr (x : S65536x1024.Idx → EReal) (g : S1x1024.Idx → EReal) (w : S1024x896.Idx → EReal) (alog dtb : S1x128.Idx → EReal)
    (r : Fin 65536) (l : Fin 128) : EReal :=
  -Ideal.exp (alog (ix2 0 l)) * softplus (abArr x g w r l + dtb (ix2 0 l))

/-- The queries, at every index. -/
def qArr (x : S65536x1024.Idx → EReal) (g : S1x1024.Idx → EReal) (w : S1024x896.Idx → EReal) (qg : S1x384.Idx → EReal)
    (wq : S384x2048.Idx → EReal) (tab : S2048x128.Idx → EReal) : S65536x2048.Idx → EReal := fun i =>
  laneQ (rowQ (fun k => x (ix2 (i 0) k)) g w qg wq) (tabRow tab (i 0).val) (i 1)

/-- The keys, at every index. -/
def kArr (x : S65536x1024.Idx → EReal) (g : S1x1024.Idx → EReal) (w : S1024x896.Idx → EReal) (kvg : S1x256.Idx → EReal)
    (wkv : S256x2048.Idx → EReal) (tab : S2048x128.Idx → EReal) : S65536x2048.Idx → EReal := fun i =>
  laneK (rowKV (fun k => x (ix2 (i 0) k)) g w kvg wkv) (fun m => rowSmall (fun k => x (ix2 (i 0) k)) g w ⟨640 + m, by omega⟩)
    (tabRow tab (i 0).val) (i 1)

/-- The values, at every index. -/
def vArr (x : S65536x1024.Idx → EReal) (g : S1x1024.Idx → EReal) (w : S1024x896.Idx → EReal) (kvg : S1x256.Idx → EReal)
    (wkv : S256x2048.Idx → EReal) : S65536x1024.Idx → EReal := fun i =>
  rowKV (fun k => x (ix2 (i 0) k)) g w kvg wkv ⟨1024 + (i 1).val, by have h : (i 1).val < 1024 := (i 1).isLt; omega⟩

/-- The summed decays and the betas, at every index. -/
def gbArr (x : S65536x1024.Idx → EReal) (g : S1x1024.Idx → EReal) (w : S1024x896.Idx → EReal) (alog dtb : S1x128.Idx → EReal) :
    S65536x128.Idx → EReal := fun i =>
  if (i 1).val < 8 then
    ∑ j : Fin 64, decArr x g w alog dtb ⟨(i 0).val / 64 * 64 + j, by have h : (i 0).val < 65536 := (i 0).isLt; omega⟩ (i 1)
      * (if (j : ℕ) ≤ (i 0).val % 64 then 1 else 0)
  else if (i 1).val < 16 then
    ∑ j : Fin 64, decArr x g w alog dtb ⟨(i 0).val / 64 * 64 + j, by have h : (i 0).val < 65536 := (i 0).isLt; omega⟩ (i 1)
      * (if (i 0).val % 64 ≤ (j : ℕ) then 1 else 0)
  else if (i 1).val < 32 then logistic (abArr x g w (i 0) (i 1))
  else 0

section At

variable (x : S65536x1024.Idx → EReal) (tab : S2048x128.Idx → EReal) (n : ℕ) (hn : n < 128)
  (a0 : Vec Ideal S512x1024 .f32) (a1 : Vec Ideal S1x1024 .f32) (a2 : Vec Ideal S1024x896 .bf16)
  (a3 : Vec Ideal S1x384 .f32) (a4 : Vec Ideal S1x256 .f32) (a5 : Vec Ideal S384x2048 .bf16)
  (a6 : Vec Ideal S256x2048 .bf16) (a7 a8 : Vec Ideal S512x128 .f32) (a9 a10 : Vec Ideal S1x128 .f32)
  (h0 : ∀ r k, a0 (ix2 r k) = x (ix2 ⟨512 * n + (r : Fin 512), by omega⟩ k))

include h0

/-- A tile of the queries, as a part of the whole. -/
theorem q_at (h7 : ∀ (r : Fin 512) (m : Fin 128), a7 (ix2 r m) = tabRow tab (512 * n + r) m) (y : S512x2048.Idx) (i : S65536x2048.Idx)
    (hi0 : (i 0 : ℕ) = 512 * n + (y 0).val) (hi1 : (i 1 : ℕ) = (y 1).val) :
    out1_11 a0 a1 a2 a3 a4 a5 a6 a7 a8 a9 a10 y = qArr x a1 a2 a3 a5 tab i := by
  rw [q_tile]
  idx_vars y
  idx_vars i
  obtain rfl : i1 = y1 := Fin.ext hi1
  have hy : y0.val < 512 := y0.isLt
  have hb : 512 * n + y0.val < 65536 := by omega
  obtain rfl : i0 = ⟨512 * n + y0.val, hb⟩ := Fin.ext hi0
  unfold qArr
  simp only [ix2_0, ix2_1, h0, h7]

/-- A tile of the keys, as a part of the whole. -/
theorem k_at (h8 : ∀ (r : Fin 512) (m : Fin 128), a8 (ix2 r m) = tabRow tab (512 * n + r) m) (y : S512x2048.Idx) (i : S65536x2048.Idx)
    (hi0 : (i 0 : ℕ) = 512 * n + (y 0).val) (hi1 : (i 1 : ℕ) = (y 1).val) :
    out1_12 a0 a1 a2 a3 a4 a5 a6 a7 a8 a9 a10 y = kArr x a1 a2 a4 a6 tab i := by
  rw [k_tile]
  idx_vars y
  idx_vars i
  obtain rfl : i1 = y1 := Fin.ext hi1
  have hy : y0.val < 512 := y0.isLt
  have hb : 512 * n + y0.val < 65536 := by omega
  obtain rfl : i0 = ⟨512 * n + y0.val, hb⟩ := Fin.ext hi0
  unfold kArr
  simp only [ix2_0, ix2_1, h0, h8]

/-- A tile of the values, as a part of the whole. -/
theorem v_at (y : S512x1024.Idx) (i : S65536x1024.Idx)
    (hi0 : (i 0 : ℕ) = 512 * n + (y 0).val) (hi1 : (i 1 : ℕ) = (y 1).val) :
    out1_13 a0 a1 a2 a3 a4 a5 a6 a7 a8 a9 a10 y = vArr x a1 a2 a4 a6 i := by
  rw [v_tile]
  idx_vars y
  idx_vars i
  obtain rfl : i1 = y1 := Fin.ext hi1
  have hy : y0.val < 512 := y0.isLt
  have hb : 512 * n + y0.val < 65536 := by omega
  obtain rfl : i0 = ⟨512 * n + y0.val, hb⟩ := Fin.ext hi0
  unfold vArr
  simp only [ix2_0, ix2_1, h0]

/-- A tile of the decays and betas, as a part of the whole. -/
theorem gb_at (y : S512x128.Idx) (i : S65536x128.Idx)
    (hi0 : (i 0 : ℕ) = 512 * n + (y 0).val) (hi1 : (i 1 : ℕ) = (y 1).val) :
    out1_14 a0 a1 a2 a3 a4 a5 a6 a7 a8 a9 a10 y = gbArr x a1 a2 a9 a10 i := by
  rw [gb_tile_apply]
  idx_vars y
  idx_vars i
  obtain rfl : i1 = y1 := Fin.ext hi1
  have hy : y0.val < 512 := y0.isLt
  have hb : 512 * n + y0.val < 65536 := by omega
  obtain rfl : i0 = ⟨512 * n + y0.val, hb⟩ := Fin.ext hi0
  have e1 : (512 * n + y0.val) / 64 * 64 = 512 * n + y0.val / 64 * 64 := by omega
  have e2 : (512 * n + y0.val) % 64 = y0.val % 64 := by omega
  rw [lanes_apply]
  unfold gbArr decArr abArr
  simp only [scanBack_apply, scanAhead_apply, decay_apply, beta_apply, ab_eq, ix2_0, ix2_1, h0, e1, e2, Nat.add_assoc]
  rfl

end At

variable (V : (c : Dev nD) → (b : Ref sig .tc) → Buf (Elt Ideal) ((c : Thread nD τ).loc b))

variable (V : (c : Dev nD) → (b : Ref sig .tc) → Buf (Elt Ideal) ((c : Thread nD τ).loc b))

theorem idx1_0 : ∀ t : Fin grid1.N, win1_0.index t = ![t.val, 0] := by decide +kernel
theorem idx1_1 : ∀ t : Fin grid1.N, win1_1.index t = ![0, 0] := by decide +kernel
theorem idx1_2 : ∀ t : Fin grid1.N, win1_2.index t = ![0, 0] := by decide +kernel
theorem idx1_3 : ∀ t : Fin grid1.N, win1_3.index t = ![0, 0] := by decide +kernel
theorem idx1_4 : ∀ t : Fin grid1.N, win1_4.index t = ![0, 0] := by decide +kernel
theorem idx1_5 : ∀ t : Fin grid1.N, win1_5.index t = ![0, 0] := by decide +kernel
theorem idx1_6 : ∀ t : Fin grid1.N, win1_6.index t = ![0, 0] := by decide +kernel
theorem idx1_7 : ∀ t : Fin grid1.N, win1_7.index t = ![t.val % 4, 0] := by decide +kernel
theorem idx1_8 : ∀ t : Fin grid1.N, win1_8.index t = ![t.val % 4, 0] := by decide +kernel
theorem idx1_9 : ∀ t : Fin grid1.N, win1_9.index t = ![0, 0] := by decide +kernel
theorem idx1_10 : ∀ t : Fin grid1.N, win1_10.index t = ![0, 0] := by decide +kernel
theorem idx1_11 : ∀ t : Fin grid1.N, win1_11.index t = ![t.val, 0] := by decide +kernel
theorem idx1_12 : ∀ t : Fin grid1.N, win1_12.index t = ![t.val, 0] := by decide +kernel
theorem idx1_13 : ∀ t : Fin grid1.N, win1_13.index t = ![t.val, 0] := by decide +kernel
theorem idx1_14 : ∀ t : Fin grid1.N, win1_14.index t = ![t.val, 0] := by decide +kernel

theorem N1 (t : Fin grid1.N) : t.val < 128 := t.isLt

/-- The rows of the activations that a step reads. -/
theorem x_rows (c : Dev nD) (t : Fin grid1.N) (r : Fin 512) (k : Fin 1024) :
    (iblk1 V c 0 t : Vec Ideal S512x1024 .f32) (ix2 r k) = (V c main_v74 : S65536x1024.Idx → EReal) (ix2 ⟨512 * t.val + r, by have := N1 t; omega⟩ k) := by
  blk_ext [iblk1, idx1_0 t]

/-- The rows of the query's table that a step reads. -/
theorem tabq_rows (c : Dev nD) (t : Fin grid1.N) (r : Fin 512) (m : Fin 128) :
    (iblk1 V c 7 t : Vec Ideal S512x128 .f32) (ix2 r m) = tabRow (V c main_v97) (512 * t.val + r) m := by
  unfold tabRow
  blk_ext [iblk1, idx1_7 t]

/-- The rows of the key's table that a step reads. -/
theorem tabk_rows (c : Dev nD) (t : Fin grid1.N) (r : Fin 512) (m : Fin 128) :
    (iblk1 V c 8 t : Vec Ideal S512x128 .f32) (ix2 r m) = tabRow (V c main_v91) (512 * t.val + r) m := by
  unfold tabRow
  blk_ext [iblk1, idx1_8 t]

theorem again_blk (c : Dev nD) (t : Fin grid1.N) : (iblk1 V c 1 t : Vec Ideal S1x1024 .f32) = V c main_v44 := by
  funext y; blk_ext [iblk1, idx1_1 t]
theorem small_blk (c : Dev nD) (t : Fin grid1.N) : (iblk1 V c 2 t : Vec Ideal S1024x896 .bf16) = V c main_v24 := by
  funext y; blk_ext [iblk1, idx1_2 t]
theorem qg_blk (c : Dev nD) (t : Fin grid1.N) : (iblk1 V c 3 t : Vec Ideal S1x384 .f32) = V c main_v47 := by
  funext y; blk_ext [iblk1, idx1_3 t]
theorem kvg_blk (c : Dev nD) (t : Fin grid1.N) : (iblk1 V c 4 t : Vec Ideal S1x256 .f32) = V c main_v49 := by
  funext y; blk_ext [iblk1, idx1_4 t]
theorem wq_blk (c : Dev nD) (t : Fin grid1.N) : (iblk1 V c 5 t : Vec Ideal S384x2048 .bf16) = V c main_v34 := by
  funext y; blk_ext [iblk1, idx1_5 t]
theorem wkv_blk (c : Dev nD) (t : Fin grid1.N) : (iblk1 V c 6 t : Vec Ideal S256x2048 .bf16) = V c main_v42 := by
  funext y; blk_ext [iblk1, idx1_6 t]
theorem alog_blk (c : Dev nD) (t : Fin grid1.N) : (iblk1 V c 9 t : Vec Ideal S1x128 .f32) = V c main_v53 := by
  funext y; blk_ext [iblk1, idx1_9 t]
theorem dtb_blk (c : Dev nD) (t : Fin grid1.N) : (iblk1 V c 10 t : Vec Ideal S1x128 .f32) = V c main_v57 := by
  funext y; blk_ext [iblk1, idx1_10 t]

/-- The queries that the preparation kernel leaves. -/
theorem q_arr (c : Dev nD) :
    (dat1 V c).arrAt 11 cfg1.N = qArr (V c main_v74) (V c main_v44) (V c main_v24) (V c main_v47) (V c main_v34) (V c main_v97) := by
  refine (dat1 V c).arrAt_eq_of_covers 11 _ (by decide +kernel) fun t hf y => ?_
  blk_simp
  rw [after1_11, again_blk, small_blk, qg_blk, wq_blk]
  exact q_at _ _ t.val (N1 t) _ _ _ _ _ _ _ _ _ _ _ (x_rows V c t) (tabq_rows V c t) y _ (by blk_simp [idx1_11 t]; try omega) (by blk_simp [idx1_11 t]; try omega)

/-- The keys that the preparation kernel leaves. -/
theorem k_arr (c : Dev nD) :
    (dat1 V c).arrAt 12 cfg1.N = kArr (V c main_v74) (V c main_v44) (V c main_v24) (V c main_v49) (V c main_v42) (V c main_v91) := by
  refine (dat1 V c).arrAt_eq_of_covers 12 _ (by decide +kernel) fun t hf y => ?_
  blk_simp
  rw [after1_12, again_blk, small_blk, kvg_blk, wkv_blk]
  exact k_at _ _ t.val (N1 t) _ _ _ _ _ _ _ _ _ _ _ (x_rows V c t) (tabk_rows V c t) y _ (by blk_simp [idx1_12 t]; try omega) (by blk_simp [idx1_12 t]; try omega)

/-- The values that the preparation kernel leaves. -/
theorem v_arr (c : Dev nD) :
    (dat1 V c).arrAt 13 cfg1.N = vArr (V c main_v74) (V c main_v44) (V c main_v24) (V c main_v49) (V c main_v42) := by
  refine (dat1 V c).arrAt_eq_of_covers 13 _ (by decide +kernel) fun t hf y => ?_
  blk_simp
  rw [after1_13, again_blk, small_blk, kvg_blk, wkv_blk]
  exact v_at _ t.val (N1 t) _ _ _ _ _ _ _ _ _ _ _ (x_rows V c t) y _ (by blk_simp [idx1_13 t]; try omega) (by blk_simp [idx1_13 t]; try omega)

/-- The decays and betas that the preparation kernel leaves. -/
theorem gb_arr (c : Dev nD) :
    (dat1 V c).arrAt 14 cfg1.N = gbArr (V c main_v74) (V c main_v44) (V c main_v24) (V c main_v53) (V c main_v57) := by
  refine (dat1 V c).arrAt_eq_of_covers 14 _ (by decide +kernel) fun t hf y => ?_
  blk_simp
  rw [after1_14, again_blk, small_blk, alog_blk, dtb_blk]
  exact gb_at _ t.val (N1 t) _ _ _ _ _ _ _ _ _ _ _ (x_rows V c t) y _ (by blk_simp [idx1_14 t]; try omega) (by blk_simp [idx1_14 t]; try omega)

end Cert.Layer

end
-- ==== Proof.Region2.lean ====
/- The latent attention kernel: its result as a function of the arrays it reads. -/
module

public import proofs.«01_k».proof.Proof.Gen.KernelIdeal.Frame
public import proofs.«01_k».proof.Proof.Tiles
public import Idealize.ShloMosaic.Lib.Pipeline.ValueKit

@[expose] public section

set_option maxRecDepth 16384

noncomputable section

namespace Cert.Layer

open Idealize.ShloMosaic Idealize.ShloMosaic.TcCoe Idealize.SL.Sem
open Cert.KernelIdeal Cert.KernelIdeal.Gen

/-- Row j of the batch of row s. -/
def keyRow (s : Fin 65536) (j : Fin 2048) : Fin 65536 := ⟨s / 2048 * 2048 + j, by omega⟩

/-- The score of row s against key row j, in the head of lane n. -/
def attnScore (q k : S65536x2048.Idx → EReal) (s : Fin 65536) (n : Fin 1024) (j : Fin 2048) : EReal :=
  ∑ l : Fin 256, q (ix2 s ⟨n / 128 * 256 + l, by omega⟩) * k (ix2 (keyRow s j) ⟨n / 128 * 256 + l, by omega⟩)

/-- The latent attention's result at a row of batch b, lane n of head h = n / 128, over the batch's 2048 rows of keys. -/
def attnArr (q k : S65536x2048.Idx → EReal) (v : S65536x1024.Idx → EReal) (z : S2x65536x3072.Idx → EReal) : S65536x1024.Idx → EReal := fun i =>
  Ideal.div
      (∑ j : Fin 2048, Ideal.exp2 (attnScore q k (i 0) (i 1) j
          - Finset.univ.fold max (⊥ : EReal) (fun j : Fin 2048 => attnScore q k (i 0) (i 1) j)) * v (ix2 (keyRow (i 0) j) (i 1)))
      (∑ j : Fin 2048, Ideal.exp2 (attnScore q k (i 0) (i 1) j
          - Finset.univ.fold max (⊥ : EReal) (fun j : Fin 2048 => attnScore q k (i 0) (i 1) j)))
    * (z (ix3 1 (i 0) ⟨1024 + (i 1).val, by have h : (i 1).val < 1024 := (i 1).isLt; omega⟩)
        * logistic (z (ix3 1 (i 0) ⟨1024 + (i 1).val, by have h : (i 1).val < 1024 := (i 1).isLt; omega⟩)))

/-- A block of 256 rows of one head, as a part of the whole. -/
theorem rows_at (q k : S65536x2048.Idx → EReal) (v : S65536x1024.Idx → EReal) (z : S2x65536x3072.Idx → EReal)
    (b h : ℕ) (hb : b < 32) (hh : h < 8)
    (a1 : Vec Ideal S2048x256 .bf16) (a2 : Vec Ideal S2048x128 .bf16)
    (h1 : ∀ (r : Fin 2048) (l : Fin 256), a1 (ix2 r l) = k (ix2 ⟨2048 * b + r, by omega⟩ ⟨256 * h + l, by omega⟩))
    (h2 : ∀ (r : Fin 2048) (l : Fin 128), a2 (ix2 r l) = v (ix2 ⟨2048 * b + r, by omega⟩ ⟨128 * h + l, by omega⟩))
    (o : ℕ) (ho : o + 256 ≤ 2048) (qb : Vec Ideal S256x256 .bf16) (zb : Vec Ideal S1x256x128 .bf16)
    (hq : ∀ (r : Fin 256) (l : Fin 256), qb (ix2 r l) = q (ix2 ⟨2048 * b + (o + r), by omega⟩ ⟨256 * h + l, by omega⟩))
    (hz : ∀ (r : Fin 256) (l : Fin 128), zb (ix3 0 r l) = z (ix3 1 ⟨2048 * b + (o + r), by omega⟩ ⟨1024 + (128 * h + l), by omega⟩))
    (r : Fin 256) (d : Fin 128) :
    k2_pay6 (F := Ideal) a1 a2 qb zb (ix2 r d)
      = attnArr q k v z (ix2 ⟨2048 * b + (o + r), by omega⟩ ⟨128 * h + d, by omega⟩) := by
  rw [attn_pay]
  have e1 : (2048 * b + (o + r.val)) / 2048 * 2048 = 2048 * b := by omega
  have e2 : (128 * h + d.val) / 128 * 256 = 256 * h := by omega
  unfold attnArr attnScore keyRow
  simp only [ix2_0, ix2_1, h1, h2, hq, hz, e1, e2]

/-- One head of one batch entry, as a part of the whole. -/
theorem attn_at (q k : S65536x2048.Idx → EReal) (v : S65536x1024.Idx → EReal) (z : S2x65536x3072.Idx → EReal)
    (b h : ℕ) (hb : b < 32) (hh : h < 8) (a0 : Vec Ideal S2048x256 .bf16)
    (a1 : Vec Ideal S2048x256 .bf16) (a2 : Vec Ideal S2048x128 .bf16) (a3 : Vec Ideal S1x2048x128 .bf16)
    (h0 : ∀ (r : Fin 2048) (l : Fin 256), a0 (ix2 r l) = q (ix2 ⟨2048 * b + r, by omega⟩ ⟨256 * h + l, by omega⟩))
    (h1 : ∀ (r : Fin 2048) (l : Fin 256), a1 (ix2 r l) = k (ix2 ⟨2048 * b + r, by omega⟩ ⟨256 * h + l, by omega⟩))
    (h2 : ∀ (r : Fin 2048) (l : Fin 128), a2 (ix2 r l) = v (ix2 ⟨2048 * b + r, by omega⟩ ⟨128 * h + l, by omega⟩))
    (h3 : ∀ (r : Fin 2048) (l : Fin 128), a3 (ix3 0 r l) = z (ix3 1 ⟨2048 * b + r, by omega⟩ ⟨1024 + (128 * h + l), by omega⟩))
    (y : S2048x128.Idx) (i : S65536x1024.Idx) (hi0 : (i 0 : ℕ) = 2048 * b + (y 0).val) (hi1 : (i 1 : ℕ) = 128 * h + (y 1).val) :
    out2_4 a0 a1 a2 a3 y = attnArr q k v z i := by
  idx_vars i
  have hy0 : (y 0).val < 2048 := (y 0).isLt
  have hy1 : (y 1).val < 128 := (y 1).isLt
  have hb0 : 2048 * b + (y 0).val < 65536 := by omega
  have hb1 : 128 * h + (y 1).val < 1024 := by omega
  obtain rfl : i1 = ⟨128 * h + (y 1).val, hb1⟩ := Fin.ext hi1
  obtain rfl : i0 = ⟨2048 * b + (y 0).val, hb0⟩ := Fin.ext hi0
  unfold_out out2_4
  have l1 : View.ld a1 r2_0 = a1 := View.ld_unit_lit' _ _ (by decide)
  have l2 : View.ld a2 r2_1 = a2 := View.ld_unit_lit' _ _ (by decide)
  have fin : ∀ (o : ℕ) (ho : o + 256 ≤ 2048) (r : Fin 256) (d : Fin 128), (y 0 : ℕ) = o + r.val → (y 1 : ℕ) = d →
      attnArr q k v z (ix2 ⟨2048 * b + (o + r), by omega⟩ ⟨128 * h + d, by omega⟩)
        = attnArr q k v z (ix2 ⟨2048 * b + (y 0).val, hb0⟩ ⟨128 * h + (y 1).val, hb1⟩) := fun o ho r d e0 e1 => by
    congr 2
    · exact Fin.ext (by dsimp only; omega)
    · exact Fin.ext (by dsimp only; omega)
  rw [l1, l2]
  canon_tiles x hx
  all_goals idx_vars x
  · refine ((show _ = k2_pay6 (F := Ideal) a1 a2 (View.ld a0 r2_21) (View.ld a3 r2_24) (ix2 x0 x1) from rfl).trans
      (rows_at q k v z b h hb hh a1 a2 h1 h2 1792 (by omega) _ _ (fun r l => ?_) (fun r l => ?_) x0 x1)).trans
      (fin 1792 (by omega) x0 x1 (by omega) hx1)
    · refine Eq.trans ?_ (h0 ⟨1792 + r, by omega⟩ l)
      pointwise
    · refine Eq.trans ?_ (h3 ⟨1792 + r, by omega⟩ l)
      pointwise
  · refine ((show _ = k2_pay6 (F := Ideal) a1 a2 (View.ld a0 r2_18) (View.ld a3 r2_22) (ix2 x0 x1) from rfl).trans
      (rows_at q k v z b h hb hh a1 a2 h1 h2 1536 (by omega) _ _ (fun r l => ?_) (fun r l => ?_) x0 x1)).trans
      (fin 1536 (by omega) x0 x1 (by omega) hx1)
    · refine Eq.trans ?_ (h0 ⟨1536 + r, by omega⟩ l)
      pointwise
    · refine Eq.trans ?_ (h3 ⟨1536 + r, by omega⟩ l)
      pointwise
  · refine ((show _ = k2_pay6 (F := Ideal) a1 a2 (View.ld a0 r2_15) (View.ld a3 r2_19) (ix2 x0 x1) from rfl).trans
      (rows_at q k v z b h hb hh a1 a2 h1 h2 1280 (by omega) _ _ (fun r l => ?_) (fun r l => ?_) x0 x1)).trans
      (fin 1280 (by omega) x0 x1 (by omega) hx1)
    · refine Eq.trans ?_ (h0 ⟨1280 + r, by omega⟩ l)
      pointwise
    · refine Eq.trans ?_ (h3 ⟨1280 + r, by omega⟩ l)
      pointwise
  · refine ((show _ = k2_pay6 (F := Ideal) a1 a2 (View.ld a0 r2_12) (View.ld a3 r2_16) (ix2 x0 x1) from rfl).trans
      (rows_at q k v z b h hb hh a1 a2 h1 h2 1024 (by omega) _ _ (fun r l => ?_) (fun r l => ?_) x0 x1)).trans
      (fin 1024 (by omega) x0 x1 (by omega) hx1)
    · refine Eq.trans ?_ (h0 ⟨1024 + r, by omega⟩ l)
      pointwise
    · refine Eq.trans ?_ (h3 ⟨1024 + r, by omega⟩ l)
      pointwise
  · refine ((show _ = k2_pay6 (F := Ideal) a1 a2 (View.ld a0 r2_9) (View.ld a3 r2_13) (ix2 x0 x1) from rfl).trans
      (rows_at q k v z b h hb hh a1 a2 h1 h2 768 (by omega) _ _ (fun r l => ?_) (fun r l => ?_) x0 x1)).trans
      (fin 768 (by omega) x0 x1 (by omega) hx1)
    · refine Eq.trans ?_ (h0 ⟨768 + r, by omega⟩ l)
      pointwise
    · refine Eq.trans ?_ (h3 ⟨768 + r, by omega⟩ l)
      pointwise
  · refine ((show _ = k2_pay6 (F := Ideal) a1 a2 (View.ld a0 r2_6) (View.ld a3 r2_10) (ix2 x0 x1) from rfl).trans
      (rows_at q k v z b h hb hh a1 a2 h1 h2 512 (by omega) _ _ (fun r l => ?_) (fun r l => ?_) x0 x1)).trans
      (fin 512 (by omega) x0 x1 (by omega) hx1)
    · refine Eq.trans ?_ (h0 ⟨512 + r, by omega⟩ l)
      pointwise
    · refine Eq.trans ?_ (h3 ⟨512 + r, by omega⟩ l)
      pointwise
  · refine ((show _ = k2_pay6 (F := Ideal) a1 a2 (View.ld a0 r2_3) (View.ld a3 r2_7) (ix2 x0 x1) from rfl).trans
      (rows_at q k v z b h hb hh a1 a2 h1 h2 256 (by omega) _ _ (fun r l => ?_) (fun r l => ?_) x0 x1)).trans
      (fin 256 (by omega) x0 x1 (by omega) hx1)
    · refine Eq.trans ?_ (h0 ⟨256 + r, by omega⟩ l)
      pointwise
    · refine Eq.trans ?_ (h3 ⟨256 + r, by omega⟩ l)
      pointwise
  · refine ((show _ = k2_pay6 (F := Ideal) a1 a2 (View.ld a0 r2_2) (View.ld a3 r2_4) (ix2 x0 x1) from rfl).trans
      (rows_at q k v z b h hb hh a1 a2 h1 h2 0 (by omega) _ _ (fun r l => ?_) (fun r l => ?_) x0 x1)).trans
      (fin 0 (by omega) x0 x1 (by omega) hx1)
    · refine Eq.trans ?_ (h0 ⟨0 + r, by omega⟩ l)
      pointwise
    · refine Eq.trans ?_ (h3 ⟨0 + r, by omega⟩ l)
      pointwise

variable (V : (c : Dev nD) → (b : Ref sig .tc) → Buf (Elt Ideal) ((c : Thread nD τ).loc b))

variable (V : (c : Dev nD) → (b : Ref sig .tc) → Buf (Elt Ideal) ((c : Thread nD τ).loc b))

theorem idx2_0 : ∀ t : Fin grid2.N, win2_0.index t = ![t.val / 8, t.val % 8] := by decide +kernel
theorem idx2_1 : ∀ t : Fin grid2.N, win2_1.index t = ![t.val / 8, t.val % 8] := by decide +kernel
theorem idx2_2 : ∀ t : Fin grid2.N, win2_2.index t = ![t.val / 8, t.val % 8] := by decide +kernel
theorem idx2_3 : ∀ t : Fin grid2.N, win2_3.index t = ![1, t.val / 8, 8 + t.val % 8] := by decide +kernel
theorem idx2_4 : ∀ t : Fin grid2.N, win2_4.index t = ![t.val / 8, t.val % 8] := by decide +kernel

theorem N2 (t : Fin grid2.N) : t.val < 256 := t.isLt

/-- The rows and lanes of the queries that a step reads. -/
theorem q_rows (c : Dev nD) (t : Fin grid2.N) (r : Fin 2048) (l : Fin 256) :
    (iblk2 V c 0 t : Vec Ideal S2048x256 .bf16) (ix2 r l)
      = (V c main_v99_0 : S65536x2048.Idx → EReal) (ix2 ⟨2048 * (t.val / 8) + r, by have := N2 t; omega⟩ ⟨256 * (t.val % 8) + l, by omega⟩) := by
  blk_ext [iblk2, idx2_0 t]

/-- The rows and lanes of the keys that a step reads. -/
theorem k_rows (c : Dev nD) (t : Fin grid2.N) (r : Fin 2048) (l : Fin 256) :
    (iblk2 V c 1 t : Vec Ideal S2048x256 .bf16) (ix2 r l)
      = (V c main_v99_1 : S65536x2048.Idx → EReal) (ix2 ⟨2048 * (t.val / 8) + r, by have := N2 t; omega⟩ ⟨256 * (t.val % 8) + l, by omega⟩) := by
  blk_ext [iblk2, idx2_1 t]

/-- The rows and lanes of the values that a step reads. -/
theorem v_rows (c : Dev nD) (t : Fin grid2.N) (r : Fin 2048) (l : Fin 128) :
    (iblk2 V c 2 t : Vec Ideal S2048x128 .bf16) (ix2 r l)
      = (V c main_v99_2 : S65536x1024.Idx → EReal) (ix2 ⟨2048 * (t.val / 8) + r, by have := N2 t; omega⟩ ⟨128 * (t.val % 8) + l, by omega⟩) := by
  blk_ext [iblk2, idx2_2 t]

/-- The rows and lanes of the gate that a step reads. -/
theorem z_rows (c : Dev nD) (t : Fin grid2.N) (r : Fin 2048) (l : Fin 128) :
    (iblk2 V c 3 t : Vec Ideal S1x2048x128 .bf16) (ix3 0 r l)
      = (V c main_v98 : S2x65536x3072.Idx → EReal) (ix3 1 ⟨2048 * (t.val / 8) + r, by have := N2 t; omega⟩ ⟨1024 + (128 * (t.val % 8) + l), by omega⟩) := by
  blk_ext [iblk2, idx2_3 t]

/-- The array that the latent attention kernel leaves. -/
theorem attn_arr (c : Dev nD) :
    (dat2 V c).arrAt 4 cfg2.N = attnArr (V c main_v99_0) (V c main_v99_1) (V c main_v99_2) (V c main_v98) := by
  refine (dat2 V c).arrAt_eq_of_covers 4 _ (by decide +kernel) fun t hf y => ?_
  blk_simp
  rw [after2_4]
  exact attn_at _ _ _ _ (t.val / 8) (t.val % 8) (by have := N2 t; omega) (by omega) _ _ _ _ (q_rows V c t) (k_rows V c t) (v_rows V c t) (z_rows V c t)
    y _ (by blk_simp [idx2_4 t]; try omega) (by blk_simp [idx2_4 t]; try omega)

end Cert.Layer

end
-- ==== Proof.Region3.lean ====
/- The memory keys and values kernel: its result as a function of the arrays it reads. -/
module

public import proofs.«01_k».proof.Proof.Gen.KernelIdeal.Frame
public import proofs.«01_k».proof.Proof.Tiles
public import Idealize.ShloMosaic.Lib.Pipeline.ValueKit

@[expose] public section

set_option maxRecDepth 16384

noncomputable section

namespace Cert.Layer

open Idealize.ShloMosaic Idealize.ShloMosaic.TcCoe Idealize.SL.Sem
open Cert.KernelIdeal Cert.KernelIdeal.Gen

/-- The memory's keys and values, at every index. -/
def memArr (m : S32x256x1024.Idx → EReal) (g : S1x1024.Idx → EReal) (w : S1024x1024.Idx → EReal) : S32x256x1024.Idx → EReal := fun i =>
  ∑ k : Fin 1024, rms (Ideal.ofBits .f32 0x44800000#32) (fun k => m (ix3 (i 0) (i 1) k)) (fun k => g (ix2 0 k)) k * w (ix2 k (i 2))

/-- The keys and values of one batch entry, as a part of the whole. -/
theorem mem_at (m : S32x256x1024.Idx → EReal) (n : ℕ) (hn : n < 32) (a0 : Vec Ideal S1x256x1024 .f32) (a1 : Vec Ideal S1x1024 .f32)
    (a2 : Vec Ideal S1024x1024 .bf16) (h0 : ∀ (r : Fin 256) (k : Fin 1024), a0 (ix3 0 r k) = m (ix3 ⟨n, hn⟩ r k))
    (y : S1x256x1024.Idx) (i : S32x256x1024.Idx) (hi0 : (i 0 : ℕ) = n + (y 0).val) (hi1 : (i 1 : ℕ) = (y 1).val)
    (hi2 : (i 2 : ℕ) = (y 2).val) : k3_pay1 (F := Ideal) a0 a1 a2 y = memArr m a1 a2 i := by
  rw [mem_pay]
  idx_vars y
  idx_vars i
  have hy : y0.val < 1 := y0.isLt
  obtain rfl : i1 = y1 := Fin.ext hi1
  obtain rfl : i2 = y2 := Fin.ext hi2
  obtain rfl : i0 = ⟨n, hn⟩ := Fin.ext (by have h : (i0 : ℕ) = n + y0.val := hi0; show (i0 : ℕ) = n; omega)
  unfold memArr
  simp only [ix3_0, ix3_1, ix3_2, h0]

variable (V : (c : Dev nD) → (b : Ref sig .tc) → Buf (Elt Ideal) ((c : Thread nD τ).loc b))

variable (V : (c : Dev nD) → (b : Ref sig .tc) → Buf (Elt Ideal) ((c : Thread nD τ).loc b))

theorem idx3_0 : ∀ t : Fin grid3.N, win3_0.index t = ![t.val, 0, 0] := by decide +kernel
theorem idx3_1 : ∀ t : Fin grid3.N, win3_1.index t = ![0, 0] := by decide +kernel
theorem idx3_2 : ∀ t : Fin grid3.N, win3_2.index t = ![0, 0] := by decide +kernel
theorem idx3_3 : ∀ t : Fin grid3.N, win3_3.index t = ![t.val, 0, 0] := by decide +kernel

/-- The rows of the memory that a step reads. -/
theorem mem_rows (c : Dev nD) (t : Fin grid3.N) (r : Fin 256) (k : Fin 1024) :
    (iblk3 V c 0 t : Vec Ideal S1x256x1024 .f32) (ix3 0 r k) = (V c main_arg1 : S32x256x1024.Idx → EReal) (ix3 ⟨t.val, t.isLt⟩ r k) := by
  blk_ext [iblk3, idx3_0 t]
theorem mgain_blk (c : Dev nD) (t : Fin grid3.N) : (iblk3 V c 1 t : Vec Ideal S1x1024 .f32) = V c main_v62 := by
  funext y; blk_ext [iblk3, idx3_1 t]
theorem wmem_blk (c : Dev nD) (t : Fin grid3.N) : (iblk3 V c 2 t : Vec Ideal S1024x1024 .bf16) = V c main_v64 := by
  funext y; blk_ext [iblk3, idx3_2 t]

/-- The array that the memory's kernel leaves. -/
theorem mem_arr (c : Dev nD) :
    (dat3 V c).arrAt 3 cfg3.N = memArr (V c main_arg1) (V c main_v62) (V c main_v64) := by
  refine (dat3 V c).arrAt_eq_of_covers 3 _ (by decide +kernel) fun t hf y => ?_
  blk_simp
  rw [after3_3]
  frame_out
  rw [mgain_blk, wmem_blk]
  exact mem_at _ t.val t.isLt _ _ _ (mem_rows V c t) y _ (by blk_simp [idx3_3 t]; try omega) (by blk_simp [idx3_3 t]; try omega) (by blk_simp [idx3_3 t]; try omega)

end Cert.Layer

end
-- ==== Proof.Region4.lean ====
/- The closing kernel: its result as a function of the arrays it reads. -/
module

public import proofs.«01_k».proof.Proof.Gen.KernelIdeal.Frame
public import proofs.«01_k».proof.Proof.Tiles
public import Idealize.ShloMosaic.Lib.Pipeline.ValueKit

@[expose] public section

set_option maxRecDepth 16384

noncomputable section

namespace Cert.Layer

open Idealize.ShloMosaic Idealize.ShloMosaic.TcCoe Idealize.SL.Sem
open Cert.KernelIdeal Cert.KernelIdeal.Gen

/-- Gate c of a row. -/
def gateArr (x : S65536x1024.Idx → EReal) (g : S1x1024.Idx → EReal) (w : S1024x3072.Idx → EReal) (s : Fin 65536) (c : Fin 3072) : EReal :=
  logistic (∑ k : Fin 1024, rms (Ideal.ofBits .f32 0x44800000#32) (fun k => x (ix2 s k)) (fun k => g (ix2 0 k)) k * w (ix2 k c))

/-- The memory attention's result at row s, lane c of head c / 128. -/
def memOut (kv : S32x256x1024.Idx → EReal) (z : S2x65536x3072.Idx → EReal) (s : Fin 65536) (c : Fin 512) : EReal :=
  attn (fun j : Fin 256 => (∑ d : Fin 128, z (ix3 1 s ⟨2048 + (512 + (c / 128 * 128 + d)), by omega⟩)
          * kv (ix3 ⟨s / 2048, by omega⟩ j ⟨c / 128 * 128 + d, by omega⟩)) * Ideal.ofBits .f32 0x3DB504F3#32)
      (fun j => kv (ix3 ⟨s / 2048, by omega⟩ j ⟨512 + c, by omega⟩))
    * (z (ix3 1 s ⟨2048 + c, by omega⟩) * logistic (z (ix3 1 s ⟨2048 + c, by omega⟩)))

/-- The three results merged under their gates. -/
def mergeArr (gate : Fin 65536 → Fin 3072 → EReal) (og ol : S65536x1024.Idx → EReal) (om : Fin 65536 → Fin 512 → EReal)
    (wbg wbm : S1024x1024.Idx → EReal) (wbe : S512x1024.Idx → EReal) (s : Fin 65536) (c : Fin 1024) : EReal :=
  gate s ⟨c, by omega⟩ * (∑ k : Fin 1024, og (ix2 s k) * wbg (ix2 k c))
    + gate s ⟨1024 + c, by omega⟩ * (∑ k : Fin 1024, ol (ix2 s k) * wbm (ix2 k c))
    + gate s ⟨2048 + c, by omega⟩ * (∑ k : Fin 512, om s k * wbe (ix2 k c))

/-- The closing kernel's result, at every index. -/
def outArr (x : S65536x1024.Idx → EReal) (g : S1x1024.Idx → EReal) (w : S1024x3072.Idx → EReal) (og ol : S65536x1024.Idx → EReal)
    (z : S2x65536x3072.Idx → EReal) (kv : S32x256x1024.Idx → EReal) (wbg wbm : S1024x1024.Idx → EReal) (wbe : S512x1024.Idx → EReal)
    (wo : S1024x1024.Idx → EReal) (fg : S1x1024.Idx → EReal) : S65536x1024.Idx → EReal := fun i =>
  rms (Ideal.ofBits .f32 0x44800000#32)
    (fun c : Fin 1024 => x (ix2 (i 0) c) + ∑ k : Fin 1024, mergeArr (gateArr x g w) og ol (memOut kv z) wbg wbm wbe (i 0) k * wo (ix2 k c))
    (fun k => fg (ix2 0 k)) (i 1)

/-- One tile of 256 rows of the closing kernel. -/
def outTile (x : Vec Ideal S256x1024 .f32) (g : Vec Ideal S1x1024 .f32) (w : Vec Ideal S1024x3072 .bf16) (kv z : Vec Ideal S1x256x1024 .bf16)
    (og : Vec Ideal S256x1024 .bf16) (wbg : Vec Ideal S1024x1024 .bf16) (ol : Vec Ideal S256x1024 .bf16) (wbm : Vec Ideal S1024x1024 .bf16)
    (wbe : Vec Ideal S512x1024 .bf16) (wo : Vec Ideal S1024x1024 .bf16) (fg : Vec Ideal S1x1024 .f32) : FVec Ideal S256x1024 .f32 :=
  k4_pay2 (k4_pay6 x) (k4_pay32 (k4_pay5 x g w) (memTile kv z) og wbg ol wbm wbe) wo fg

theorem row_read (x : Vec Ideal S256x1024 .f32) (r : Fin 256) (c : Fin 1024) : k4_pay6 (F := Ideal) x (ix2 r c) = x (ix2 r c) := by
  pointwise [k4_pay6]

theorem gates_second (x : Vec Ideal S256x1024 .f32) (g : Vec Ideal S1x1024 .f32) (w : Vec Ideal S1024x3072 .bf16) :
    k4_pay10 (F := Ideal) (k4_pay6 x) (k4_pay7 g) (k4_pay8 x) k4_pay9 w = k4_pay5 x g w := rfl

theorem final_first (x : Vec Ideal S256x1024 .f32) (G : FVec Ideal S256x3072 .f32) (om : FVec Ideal S256x512 .bf16)
    (og : Vec Ideal S256x1024 .bf16) (wbg : Vec Ideal S1024x1024 .bf16) (ol : Vec Ideal S256x1024 .bf16) (wbm : Vec Ideal S1024x1024 .bf16)
    (wbe : Vec Ideal S512x1024 .bf16) (wo : Vec Ideal S1024x1024 .bf16) (fg : Vec Ideal S1x1024 .f32) :
    k4_pay1 (F := Ideal) (k4_pay33 (k4_pay4 x) om (k4_pay30 G og wbg ol wbm) (k4_pay31 G) wbe wo) (k4_pay34 fg)
      (k4_pay35 (k4_pay4 x) om (k4_pay30 G og wbg ol wbm) (k4_pay31 G) wbe wo)
      = k4_pay2 (k4_pay6 x) (k4_pay32 G om og wbg ol wbm wbe) wo fg := rfl

/-- The second half of the kernel's tile. -/
theorem tile_second (x : Vec Ideal S256x1024 .f32) (g : Vec Ideal S1x1024 .f32) (w : Vec Ideal S1024x3072 .bf16) (kv z : Vec Ideal S1x256x1024 .bf16)
    (og : Vec Ideal S256x1024 .bf16) (wbg : Vec Ideal S1024x1024 .bf16) (ol : Vec Ideal S256x1024 .bf16) (wbm : Vec Ideal S1024x1024 .bf16)
    (wbe : Vec Ideal S512x1024 .bf16) (wo : Vec Ideal S1024x1024 .bf16) (fg : Vec Ideal S1x1024 .f32) :
    k4_pay2 (F := Ideal) (k4_pay6 x)
      (k4_pay32 (k4_pay10 (k4_pay6 x) (k4_pay7 g) (k4_pay8 x) k4_pay9 w)
        (k4_pay29 (k4_pay3 kv) (k4_pay20 z) (k4_pay21 (k4_pay3 kv) z)
          (k4_pay26 (k4_pay20 z) (k4_pay23 (k4_pay3 kv) z) (k4_pay24 (k4_pay3 kv) z) (k4_pay25 (k4_pay3 kv)))
          (k4_pay27 (k4_pay3 kv) (k4_pay20 z)) (k4_pay28 (k4_pay3 kv) (k4_pay20 z)))
        og wbg ol wbm wbe) wo fg = outTile x g w kv z og wbg ol wbm wbe wo fg := by
  rw [gates_second]
  rfl

/-- The first half of the kernel's tile. -/
theorem tile_first (x : Vec Ideal S256x1024 .f32) (g : Vec Ideal S1x1024 .f32) (w : Vec Ideal S1024x3072 .bf16) (kv z : Vec Ideal S1x256x1024 .bf16)
    (og : Vec Ideal S256x1024 .bf16) (wbg : Vec Ideal S1024x1024 .bf16) (ol : Vec Ideal S256x1024 .bf16) (wbm : Vec Ideal S1024x1024 .bf16)
    (wbe : Vec Ideal S512x1024 .bf16) (wo : Vec Ideal S1024x1024 .bf16) (fg : Vec Ideal S1x1024 .f32) :
    k4_pay1 (F := Ideal)
      (k4_pay33 (k4_pay4 x) (k4_pay19 (k4_pay3 kv) (k4_pay11 z)
        (k4_pay15 (k4_pay12 (k4_pay3 kv) z) (k4_pay13 z) (k4_pay14 z) (FloatOps.ofBits FTy.f32 1065353216#32))
        (k4_pay16 (k4_pay3 kv) (k4_pay11 z)) (k4_pay17 (k4_pay3 kv) (k4_pay11 z)) (k4_pay18 (k4_pay3 kv) (k4_pay11 z)))
        (k4_pay30 (k4_pay5 x g w) og wbg ol wbm) (k4_pay31 (k4_pay5 x g w)) wbe wo)
      (k4_pay34 fg)
      (k4_pay35 (k4_pay4 x) (k4_pay19 (k4_pay3 kv) (k4_pay11 z)
        (k4_pay15 (k4_pay12 (k4_pay3 kv) z) (k4_pay13 z) (k4_pay14 z) (FloatOps.ofBits FTy.f32 1065353216#32))
        (k4_pay16 (k4_pay3 kv) (k4_pay11 z)) (k4_pay17 (k4_pay3 kv) (k4_pay11 z)) (k4_pay18 (k4_pay3 kv) (k4_pay11 z)))
        (k4_pay30 (k4_pay5 x g w) og wbg ol wbm) (k4_pay31 (k4_pay5 x g w)) wbe wo)
      = outTile x g w kv z og wbg ol wbm wbe wo fg := by
  rw [show FloatOps.ofBits (F := Ideal) FTy.f32 1065353216#32 = Scalar.ofBits .f32 0x3F800000#32 from rfl, memTile_first]
  exact final_first _ _ _ _ _ _ _ _ _ _

/-- A block of 256 rows of the result, as a part of the whole. -/
theorem half_at (x : S65536x1024.Idx → EReal) (og ol : S65536x1024.Idx → EReal) (z : S2x65536x3072.Idx → EReal) (kv : S32x256x1024.Idx → EReal)
    (g : Vec Ideal S1x1024 .f32) (w : Vec Ideal S1024x3072 .bf16) (wbg wbm wo : Vec Ideal S1024x1024 .bf16) (wbe : Vec Ideal S512x1024 .bf16)
    (fg : Vec Ideal S1x1024 .f32) (s : ℕ) (hs : s + 256 ≤ 65536) (n : ℕ) (hn : n < 32) (hsn : s / 2048 = n) (hs2 : (s + 255) / 2048 = n)
    (xb : Vec Ideal S256x1024 .f32) (ogb olb : Vec Ideal S256x1024 .bf16) (zb : Vec Ideal S1x256x1024 .bf16) (kvb : Vec Ideal S1x256x1024 .bf16)
    (hx : ∀ (r : Fin 256) (k : Fin 1024), xb (ix2 r k) = x (ix2 ⟨s + r, by omega⟩ k))
    (hog : ∀ (r : Fin 256) (k : Fin 1024), ogb (ix2 r k) = og (ix2 ⟨s + r, by omega⟩ k))
    (hol : ∀ (r : Fin 256) (k : Fin 1024), olb (ix2 r k) = ol (ix2 ⟨s + r, by omega⟩ k))
    (hz : ∀ (r : Fin 256) (k : Fin 1024), zb (ix3 0 r k) = z (ix3 1 ⟨s + r, by omega⟩ ⟨2048 + k, by omega⟩))
    (hkv : ∀ (r : Fin 256) (k : Fin 1024), kvb (ix3 0 r k) = kv (ix3 ⟨n, hn⟩ r k)) (r : Fin 256) (c : Fin 1024) :
    outTile xb g w kvb zb ogb wbg olb wbm wbe wo fg (ix2 r c)
      = outArr x g w og ol z kv wbg wbm wbe wo fg (ix2 ⟨s + r, by omega⟩ c) := by
  have e : (s + r.val) / 2048 = n := by omega
  unfold outTile
  rw [final_pay]
  unfold outArr mergeArr gateArr memOut
  simp only [row_read, merge_pay, gates_pay, memTile_apply, ix2_0, ix2_1, hx, hog, hol, hz, hkv, e, Nat.add_assoc]

/-- A tile of the result, as a part of the whole. -/
theorem out_at (x : S65536x1024.Idx → EReal) (og ol : S65536x1024.Idx → EReal) (z : S2x65536x3072.Idx → EReal) (kv : S32x256x1024.Idx → EReal)
    (n : ℕ) (hn : n < 128) (a0 : Vec Ideal S512x1024 .f32) (a1 : Vec Ideal S1x1024 .f32) (a2 : Vec Ideal S1024x3072 .bf16)
    (a3 a4 : Vec Ideal S512x1024 .bf16) (a5 : Vec Ideal S1x512x1024 .bf16) (a6 : Vec Ideal S1x256x1024 .bf16)
    (a7 a8 : Vec Ideal S1024x1024 .bf16) (a9 : Vec Ideal S512x1024 .bf16) (a10 : Vec Ideal S1024x1024 .bf16) (a11 : Vec Ideal S1x1024 .f32)
    (h0 : ∀ (r : Fin 512) (k : Fin 1024), a0 (ix2 r k) = x (ix2 ⟨512 * n + r, by omega⟩ k))
    (h3 : ∀ (r : Fin 512) (k : Fin 1024), a3 (ix2 r k) = og (ix2 ⟨512 * n + r, by omega⟩ k))
    (h4 : ∀ (r : Fin 512) (k : Fin 1024), a4 (ix2 r k) = ol (ix2 ⟨512 * n + r, by omega⟩ k))
    (h5 : ∀ (r : Fin 512) (k : Fin 1024), a5 (ix3 0 r k) = z (ix3 1 ⟨512 * n + r, by omega⟩ ⟨2048 + k, by omega⟩))
    (h6 : ∀ (r : Fin 256) (k : Fin 1024), a6 (ix3 0 r k) = kv (ix3 ⟨n / 4, by omega⟩ r k))
    (y : S512x1024.Idx) (i : S65536x1024.Idx) (hi0 : (i 0 : ℕ) = 512 * n + (y 0).val) (hi1 : (i 1 : ℕ) = (y 1).val) :
    out4_12 a0 a1 a2 a3 a4 a5 a6 a7 a8 a9 a10 a11 y = outArr x a1 a2 og ol z kv a7 a8 a9 a10 a11 i := by
  idx_vars i
  have hy0 : (y 0).val < 512 := (y 0).isLt
  obtain rfl : i1 = y 1 := Fin.ext hi1
  have hb0 : 512 * n + (y 0).val < 65536 := by omega
  obtain rfl : i0 = ⟨512 * n + (y 0).val, hb0⟩ := Fin.ext hi0
  unfold_out out4_12
  have l1 : View.ld a1 r4_2 = a1 := View.ld_unit_lit' _ _ (by decide)
  have l2 : View.ld a2 r4_3 = a2 := View.ld_unit_lit' _ _ (by decide)
  have l6 : View.ld a6 r4_0 = a6 := View.ld_unit_lit' _ _ (by decide)
  have l7 : View.ld a7 r4_7 = a7 := View.ld_unit_lit' _ _ (by decide)
  have l8 : View.ld a8 r4_7 = a8 := View.ld_unit_lit' _ _ (by decide)
  have l9 : View.ld a9 r4_8 = a9 := View.ld_unit_lit' _ _ (by decide)
  have l10 : View.ld a10 r4_7 = a10 := View.ld_unit_lit' _ _ (by decide)
  have l11 : View.ld a11 r4_2 = a11 := View.ld_unit_lit' _ _ (by decide)
  have fin : ∀ (o : ℕ) (ho : o + 256 ≤ 512) (r : Fin 256) (d : Fin 1024), (y 0 : ℕ) = o + r.val → (y 1 : ℕ) = d →
      outArr x a1 a2 og ol z kv a7 a8 a9 a10 a11 (ix2 ⟨512 * n + o + r, by omega⟩ d)
        = outArr x a1 a2 og ol z kv a7 a8 a9 a10 a11 (ix2 ⟨512 * n + (y 0).val, hb0⟩ (y 1)) := fun o ho r d e0 e1 => by
    congr 2
    · exact Fin.ext (by dsimp only; omega)
    · exact Fin.ext e1.symm
  rw [l1, l2, l6, l7, l8, l9, l10, l11]
  canon_tiles t ht
  all_goals idx_vars t
  · refine ((congrFun (tile_second (View.ld a0 r4_4) a1 a2 a6 (View.ld a5 r4_6) (View.ld a3 r4_4) a7 (View.ld a4 r4_4) a8 a9 a10 a11)
        (ix2 t0 t1)).trans
      (half_at x og ol z kv a1 a2 a7 a8 a10 a9 a11 (512 * n + 256) (by omega) (n / 4) (by omega) (by omega) (by omega) _ _ _ _ _
        (fun r k => ?_) (fun r k => ?_) (fun r k => ?_) (fun r k => ?_) h6 t0 t1)).trans
      (fin 256 (by omega) t0 t1 (by omega) ht1)
    · refine Eq.trans ?_ ((h0 ⟨256 + r, by omega⟩ k).trans (by simp only [Nat.add_assoc]))
      pointwise
    · refine Eq.trans ?_ ((h3 ⟨256 + r, by omega⟩ k).trans (by simp only [Nat.add_assoc]))
      pointwise
    · refine Eq.trans ?_ ((h4 ⟨256 + r, by omega⟩ k).trans (by simp only [Nat.add_assoc]))
      pointwise
    · refine Eq.trans ?_ ((h5 ⟨256 + r, by omega⟩ k).trans (by simp only [Nat.add_assoc]))
      pointwise
  · refine ((congrFun (tile_first (View.ld a0 r4_1) a1 a2 a6 (View.ld a5 r4_5) (View.ld a3 r4_1) a7 (View.ld a4 r4_1) a8 a9 a10 a11)
        (ix2 t0 t1)).trans
      (half_at x og ol z kv a1 a2 a7 a8 a10 a9 a11 (512 * n + 0) (by omega) (n / 4) (by omega) (by omega) (by omega) _ _ _ _ _
        (fun r k => ?_) (fun r k => ?_) (fun r k => ?_) (fun r k => ?_) h6 t0 t1)).trans
      (fin 0 (by omega) t0 t1 (by omega) ht1)
    · refine Eq.trans ?_ ((h0 ⟨0 + r, by omega⟩ k).trans (by simp only [Nat.add_assoc]))
      pointwise
    · refine Eq.trans ?_ ((h3 ⟨0 + r, by omega⟩ k).trans (by simp only [Nat.add_assoc]))
      pointwise
    · refine Eq.trans ?_ ((h4 ⟨0 + r, by omega⟩ k).trans (by simp only [Nat.add_assoc]))
      pointwise
    · refine Eq.trans ?_ ((h5 ⟨0 + r, by omega⟩ k).trans (by simp only [Nat.add_assoc]))
      pointwise

variable (V : (c : Dev nD) → (b : Ref sig .tc) → Buf (Elt Ideal) ((c : Thread nD τ).loc b))

variable (V : (c : Dev nD) → (b : Ref sig .tc) → Buf (Elt Ideal) ((c : Thread nD τ).loc b))

theorem idx4_0 : ∀ t : Fin grid4.N, win4_0.index t = ![t.val, 0] := by decide +kernel
theorem idx4_1 : ∀ t : Fin grid4.N, win4_1.index t = ![0, 0] := by decide +kernel
theorem idx4_2 : ∀ t : Fin grid4.N, win4_2.index t = ![0, 0] := by decide +kernel
theorem idx4_3 : ∀ t : Fin grid4.N, win4_3.index t = ![t.val, 0] := by decide +kernel
theorem idx4_4 : ∀ t : Fin grid4.N, win4_4.index t = ![t.val, 0] := by decide +kernel
theorem idx4_5 : ∀ t : Fin grid4.N, win4_5.index t = ![1, t.val, 2] := by decide +kernel
theorem idx4_6 : ∀ t : Fin grid4.N, win4_6.index t = ![t.val / 4, 0, 0] := by decide +kernel
theorem idx4_7 : ∀ t : Fin grid4.N, win4_7.index t = ![0, 0] := by decide +kernel
theorem idx4_8 : ∀ t : Fin grid4.N, win4_8.index t = ![0, 0] := by decide +kernel
theorem idx4_9 : ∀ t : Fin grid4.N, win4_9.index t = ![0, 0] := by decide +kernel
theorem idx4_10 : ∀ t : Fin grid4.N, win4_10.index t = ![0, 0] := by decide +kernel
theorem idx4_11 : ∀ t : Fin grid4.N, win4_11.index t = ![0, 0] := by decide +kernel
theorem idx4_12 : ∀ t : Fin grid4.N, win4_12.index t = ![t.val, 0] := by decide +kernel

theorem N4 (t : Fin grid4.N) : t.val < 128 := t.isLt

/-- The rows of the activations that a step reads. -/
theorem xo_rows (c : Dev nD) (t : Fin grid4.N) (r : Fin 512) (k : Fin 1024) :
    (iblk4 V c 0 t : Vec Ideal S512x1024 .f32) (ix2 r k) = (V c main_v74 : S65536x1024.Idx → EReal) (ix2 ⟨512 * t.val + r, by have := N4 t; omega⟩ k) := by
  blk_ext [iblk4, idx4_0 t]

/-- The rows of the delta rule's output that a step reads. -/
theorem og_rows (c : Dev nD) (t : Fin grid4.N) (r : Fin 512) (k : Fin 1024) :
    (iblk4 V c 3 t : Vec Ideal S512x1024 .bf16) (ix2 r k) = (V c main_arg17 : S65536x1024.Idx → EReal) (ix2 ⟨512 * t.val + r, by have := N4 t; omega⟩ k) := by
  blk_ext [iblk4, idx4_3 t]

/-- The rows of the latent attention that a step reads. -/
theorem ol_rows (c : Dev nD) (t : Fin grid4.N) (r : Fin 512) (k : Fin 1024) :
    (iblk4 V c 4 t : Vec Ideal S512x1024 .bf16) (ix2 r k) = (V c main_v100 : S65536x1024.Idx → EReal) (ix2 ⟨512 * t.val + r, by have := N4 t; omega⟩ k) := by
  blk_ext [iblk4, idx4_4 t]

/-- The rows and lanes of the projections that a step reads. -/
theorem zo_rows (c : Dev nD) (t : Fin grid4.N) (r : Fin 512) (k : Fin 1024) :
    (iblk4 V c 5 t : Vec Ideal S1x512x1024 .bf16) (ix3 0 r k)
      = (V c main_v98 : S2x65536x3072.Idx → EReal) (ix3 1 ⟨512 * t.val + r, by have := N4 t; omega⟩ ⟨2048 + k, by omega⟩) := by
  blk_ext [iblk4, idx4_5 t]

/-- The memory's keys and values that a step reads. -/
theorem kv_rows (c : Dev nD) (t : Fin grid4.N) (r : Fin 256) (k : Fin 1024) :
    (iblk4 V c 6 t : Vec Ideal S1x256x1024 .bf16) (ix3 0 r k) = (V c main_v101 : S32x256x1024.Idx → EReal) (ix3 ⟨t.val / 4, by have := N4 t; omega⟩ r k) := by
  blk_ext [iblk4, idx4_6 t]
theorem again_blk4 (c : Dev nD) (t : Fin grid4.N) : (iblk4 V c 1 t : Vec Ideal S1x1024 .f32) = V c main_v44 := by
  funext y; blk_ext [iblk4, idx4_1 t]
theorem wgate_blk4 (c : Dev nD) (t : Fin grid4.N) : (iblk4 V c 2 t : Vec Ideal S1024x3072 .bf16) = V c main_v45 := by
  funext y; blk_ext [iblk4, idx4_2 t]
theorem wbg_blk4 (c : Dev nD) (t : Fin grid4.N) : (iblk4 V c 7 t : Vec Ideal S1024x1024 .bf16) = V c main_v66 := by
  funext y; blk_ext [iblk4, idx4_7 t]
theorem wbm_blk4 (c : Dev nD) (t : Fin grid4.N) : (iblk4 V c 8 t : Vec Ideal S1024x1024 .bf16) = V c main_v68 := by
  funext y; blk_ext [iblk4, idx4_8 t]
theorem wbe_blk4 (c : Dev nD) (t : Fin grid4.N) : (iblk4 V c 9 t : Vec Ideal S512x1024 .bf16) = V c main_v70 := by
  funext y; blk_ext [iblk4, idx4_9 t]
theorem wo_blk4 (c : Dev nD) (t : Fin grid4.N) : (iblk4 V c 10 t : Vec Ideal S1024x1024 .bf16) = V c main_v72 := by
  funext y; blk_ext [iblk4, idx4_10 t]
theorem fgain_blk4 (c : Dev nD) (t : Fin grid4.N) : (iblk4 V c 11 t : Vec Ideal S1x1024 .f32) = V c main_v73 := by
  funext y; blk_ext [iblk4, idx4_11 t]

/-- The array that the closing kernel leaves. -/
theorem out_arr (c : Dev nD) :
    (dat4 V c).arrAt 12 cfg4.N = outArr (V c main_v74) (V c main_v44) (V c main_v45) (V c main_arg17) (V c main_v100) (V c main_v98)
      (V c main_v101) (V c main_v66) (V c main_v68) (V c main_v70) (V c main_v72) (V c main_v73) := by
  refine (dat4 V c).arrAt_eq_of_covers 12 _ (by decide +kernel) fun t hf y => ?_
  blk_simp
  rw [after4_12, again_blk4, wgate_blk4, wbg_blk4, wbm_blk4, wbe_blk4, wo_blk4, fgain_blk4]
  exact out_at _ _ _ _ _ t.val (N4 t) _ _ _ _ _ _ _ _ _ _ _ _ (xo_rows V c t) (og_rows V c t) (ol_rows V c t) (zo_rows V c t) (kv_rows V c t)
    y _ (by blk_simp [idx4_12 t]; try omega) (by blk_simp [idx4_12 t]; try omega)

end Cert.Layer

end
-- ==== Proof.Layer.lean ====
/- The layer at one token, over its arguments as plain functions: the projection, the decays and betas, the latent
   attention, the attention into the memory, and the gated merge. Both programs are shown to compute these. -/
module

public import proofs.«01_k».proof.Proof.Prep

@[expose] public section

set_option maxRecDepth 16384

noncomputable section

namespace Cert.Layer

open Idealize.ShloMosaic

/-- The layer's arguments. -/
structure Args where
  x : Fin 32 → Fin 2048 → Fin 1024 → EReal
  mem : Fin 32 → Fin 256 → Fin 1024 → EReal
  again : Fin 1024 → EReal
  win : Fin 1024 → Fin 9952 → EReal
  alog : Fin 2 → Fin 8 → EReal
  dtb : Fin 2 → Fin 8 → EReal
  qg : Fin 384 → EReal
  wq : Fin 384 → Fin 1536 → EReal
  kvg : Fin 256 → EReal
  wkv : Fin 256 → Fin 2048 → EReal
  mgain : Fin 1024 → EReal
  wmem : Fin 1024 → Fin 1024 → EReal
  wbg : Fin 1024 → Fin 1024 → EReal
  wbm : Fin 1024 → Fin 1024 → EReal
  wbe : Fin 512 → Fin 1024 → EReal
  wo : Fin 1024 → Fin 1024 → EReal
  fgain : Fin 1024 → EReal
  og : Fin 65536 → Fin 1024 → EReal

/-- 1024, 384 and 256, the lengths of the normalised rows. -/
abbrev n1024 : EReal := Ideal.ofBits .f32 0x44800000#32
abbrev n384 : EReal := Ideal.ofBits .f32 0x43C00000#32
abbrev n256 : EReal := Ideal.ofBits .f32 0x43800000#32

/-- The sequence of a row, and its position in it. -/
def bOf (t : Fin 65536) : Fin 32 := ⟨t / 2048, by omega⟩

/-- The position of a row of the two axes joined. -/
def sOf (t : Fin 65536) : Fin 2048 := ⟨t % 2048, Nat.mod_lt _ (by norm_num)⟩

/-- z times its sigmoid. -/
def silu (z : EReal) : EReal := z * logistic z

/-- The rotary angle of position s at frequency m. -/
def angle (s : Fin 2048) (m : Fin 32) : EReal :=
  FloatOps.sitofp (F := Ideal) .f32 (BitVec.ofNat 32 s.val)
    * Ideal.pow (Ideal.ofBits .f32 1176256512#32)
        (Ideal.div (-FloatOps.sitofp (F := Ideal) .f32 (BitVec.ofNat 32 m.val)) (Ideal.ofBits .f32 1107296256#32))

/-- The rotary embedding of 64 lanes at position s. -/
def rope (u : Fin 64 → EReal) (s : Fin 2048) (d : Fin 64) : EReal :=
  if h : d.val < 32 then u d * Ideal.cos (angle s ⟨d, h⟩) - u ⟨d + 32, by omega⟩ * Ideal.sin (angle s ⟨d, h⟩)
  else u d * Ideal.cos (angle s ⟨d - 32, by omega⟩) + u ⟨d - 32, by omega⟩ * Ideal.sin (angle s ⟨d - 32, by omega⟩)

/-- The columns of the two slabs, with their offsets taken off one by one or at once. -/
theorem big_cols (f : Fin 9952 → EReal) (g : Fin 2) (n : Fin 3072) :
    (if h : g.val < 1 then f ⟨n, by omega⟩
     else if h : n.val < 1024 then f ⟨3104 + n, by omega⟩
     else if h : n.val - 1024 < 1024 then f ⟨4832 + (n - 1024), by omega⟩
     else if h : n.val - 1024 - 1024 < 512 then f ⟨6368 + (n - 1024 - 1024), by omega⟩
     else f ⟨5856 + (n - 1024 - 1024 - 512), by omega⟩)
      = if g.val = 0 then f ⟨n, by omega⟩
        else if n.val < 1024 then f ⟨3104 + n, by omega⟩
        else if h : n.val < 2048 then f ⟨4832 + (n - 1024), by omega⟩
        else if h : n.val < 2560 then f ⟨6368 + (n - 2048), by omega⟩
        else f ⟨5856 + (n - 2560), by omega⟩ := by
  split_ifs <;> first
    | (exfalso; omega)
    | exact congrArg f (Fin.ext (by dsimp only; omega))
    | rfl

namespace Args

variable (A : Args)

/-- Column n of the input projection. -/
def prj (b : Fin 32) (s : Fin 2048) (n : Fin 9952) : EReal := dotRms n1024 (A.x b s) A.again fun k => A.win k n

/-- The log decay of direction d, head h. -/
def dec (b : Fin 32) (s : Fin 2048) (d : Fin 2) (h : Fin 8) : EReal :=
  -Ideal.exp (A.alog d h) * softplus (A.prj b s ⟨3072 + 8 * d + h, by omega⟩ + A.dtb d h)

/-- The decays summed along each chunk of 64 tokens in either direction, and the betas. -/
def gb (b : Fin 32) (s : Fin 2048) (l : Fin 128) : EReal :=
  if h8 : l.val < 8 then ∑ j : Fin 64, A.dec b ⟨s / 64 * 64 + j, by omega⟩ 0 ⟨l, h8⟩ * (if (j : ℕ) ≤ s.val % 64 then 1 else 0)
  else if h16 : l.val < 16 then
    ∑ j : Fin 64, A.dec b ⟨s / 64 * 64 + j, by omega⟩ 1 ⟨l - 8, by omega⟩ * (if s.val % 64 ≤ (j : ℕ) then 1 else 0)
  else if h32 : l.val < 32 then logistic (A.prj b s ⟨3072 + l, by omega⟩)
  else 0

/-- The two stacked slabs of the projection: the delta rule's queries, keys and values; the gates and memory queries. -/
def pz (g : Fin 2) (b : Fin 32) (s : Fin 2048) (n : Fin 3072) : EReal :=
  if g.val = 0 then A.prj b s ⟨n, by omega⟩
  else if n.val < 1024 then A.prj b s ⟨3104 + n, by omega⟩
  else if h2 : n.val < 2048 then A.prj b s ⟨4832 + (n - 1024), by omega⟩
  else if h3 : n.val < 2560 then A.prj b s ⟨6368 + (n - 2048), by omega⟩
  else A.prj b s ⟨5856 + (n - 2560), by omega⟩

/-- Column j of the queries before rotation. -/
def qv (b : Fin 32) (s : Fin 2048) (j : Fin 1536) : EReal :=
  dotRms n384 (fun i : Fin 384 => A.prj b s ⟨4128 + i, by omega⟩) A.qg fun i => A.wq i j

/-- Column j of the keys and values. -/
def kvv (b : Fin 32) (s : Fin 2048) (j : Fin 2048) : EReal :=
  dotRms n256 (fun i : Fin 256 => A.prj b s ⟨4512 + i, by omega⟩) A.kvg fun i => A.wkv i j

/-- Lane d of head h of the queries. -/
def qf (b : Fin 32) (s : Fin 2048) (h : Fin 8) (d : Fin 192) : EReal :=
  if hd : d.val < 128 then A.qv b s ⟨192 * h + d, by omega⟩
  else rope (fun m => A.qv b s ⟨192 * h + 128 + m, by omega⟩) s ⟨d - 128, by omega⟩

/-- Lane d of head h of the keys. -/
def kf (b : Fin 32) (s : Fin 2048) (h : Fin 8) (d : Fin 192) : EReal :=
  if hd : d.val < 128 then A.kvv b s ⟨256 * h + d, by omega⟩
  else rope (fun m => A.prj b s ⟨4768 + m, by omega⟩) s ⟨d - 128, by omega⟩

/-- Lane n of the gated latent attention, in head n / 128. -/
def omla (b : Fin 32) (s : Fin 2048) (n : Fin 1024) : EReal :=
  attn (fun j => (∑ d : Fin 192, A.qf b s ⟨n / 128, by omega⟩ d * A.kf b j ⟨n / 128, by omega⟩ d) * (((Real.sqrt 192)⁻¹ : ℝ) : EReal))
      (fun j => A.kvv b j ⟨256 * (n / 128) + 128 + n % 128, by omega⟩)
    * silu (A.prj b s ⟨4832 + n, by omega⟩)

/-- Column n of the memory's keys (the first 512) and values. -/
def mkv (b : Fin 32) (j : Fin 256) (n : Fin 1024) : EReal := dotRms n1024 (A.mem b j) A.mgain fun k => A.wmem k n

/-- Lane n of the gated attention into the memory, in head n / 128. -/
def omem (b : Fin 32) (s : Fin 2048) (n : Fin 512) : EReal :=
  attn (fun j => (∑ d : Fin 128, A.prj b s ⟨5856 + (n / 128 * 128 + d), by omega⟩ * A.mkv b j ⟨n / 128 * 128 + d, by omega⟩)
        * Ideal.ofBits .f32 0x3DB504F3#32)
      (fun j => A.mkv b j ⟨512 + n, by omega⟩)
    * silu (A.prj b s ⟨6368 + n, by omega⟩)

/-- The three branches' outputs merged under their gates. -/
def merged (b : Fin 32) (s : Fin 2048) (n : Fin 1024) : EReal :=
  logistic (A.prj b s ⟨6880 + n, by omega⟩) * (∑ k : Fin 1024, A.og ⟨2048 * b + s, by omega⟩ k * A.wbg k n)
    + logistic (A.prj b s ⟨7904 + n, by omega⟩) * (∑ k : Fin 1024, A.omla b s k * A.wbm k n)
    + logistic (A.prj b s ⟨8928 + n, by omega⟩) * (∑ k : Fin 512, A.omem b s k * A.wbe k n)

/-- The layer's result. -/
def y (b : Fin 32) (s : Fin 2048) (n : Fin 1024) : EReal :=
  rms n1024 (fun c => A.x b s c + ∑ k : Fin 1024, A.merged b s k * A.wo k c) A.fgain n

end Args

end Cert.Layer

end
-- ==== Proof.Spec.lean ====
/- The kernels' results, as functions of the prepared operands, are the layer's. -/
module

public import proofs.«01_k».proof.Proof.Layer
public import proofs.«01_k».proof.Proof.Region1

@[expose] public section

set_option maxRecDepth 16384

noncomputable section

namespace Cert.Layer

open Idealize.ShloMosaic Idealize.ShloMosaic.TcCoe Idealize.SL.Sem
open Cert.KernelIdeal Cert.KernelIdeal.Gen

/-- The queries' scale times 1 / log 2. -/
def qScale : ℝ := (Real.sqrt 192)⁻¹ * (Real.log 2)⁻¹

/-- The query's scale is positive. -/
theorem qScale_pos : 0 < qScale := mul_pos (inv_pos.mpr (Real.sqrt_pos.mpr (by norm_num))) ilog2_pos

/-- A sign moves out of a product. -/
theorem mul_neg_right (a b : EReal) : a * -b = -(a * b) := by rw [mul_comm, EReal.neg_mul, mul_comm]

/-- A rotation by a scaled table is the scaled rotation. -/
theorem turn_scaled (q tab : Fin 128 → EReal) (m : Fin 128) :
    turn q (fun m => tab m * (qScale : EReal)) m = turn q tab m * (qScale : EReal) := by
  unfold turn
  rw [← mul_assoc, ← mul_assoc, mul_comm _ (qScale : EReal), mul_comm _ (qScale : EReal), ← mul_add_pos qScale_pos, mul_comm]

/-- The rotary tables' entry at position s, lane n: cosines twice, sines negated, sines. -/
def tabLane (s : Fin 2048) (n : Fin 128) : EReal :=
  if h : n.val < 32 then Ideal.cos (angle s ⟨n, h⟩)
  else if h : n.val - 32 < 32 then Ideal.cos (angle s ⟨n - 32, h⟩)
  else if h : n.val - 32 - 32 < 32 then -Ideal.sin (angle s ⟨n - 32 - 32, h⟩)
  else Ideal.sin (angle s ⟨n - 32 - 32 - 32, by omega⟩)

/-- Sixty-four lanes followed by their halves exchanged, turned by the tables, are rotated. -/
theorem turn_rope (u : Fin 64 → EReal) (q : Fin 128 → EReal) (s : Fin 2048)
    (h0 : ∀ m : Fin 64, q ⟨m, by omega⟩ = u m) (h1 : ∀ m : Fin 32, q ⟨64 + m, by omega⟩ = u ⟨32 + m, by omega⟩)
    (h2 : ∀ m : Fin 32, q ⟨96 + m, by omega⟩ = u ⟨m, by omega⟩) (d : Fin 64) :
    turn q (tabLane s) ⟨d, by omega⟩ = rope u s d := by
  unfold turn rope
  by_cases hd : d.val < 32
  · rw [dif_pos hd, h0 d, sub_eq_add_neg, ← mul_neg_right]
    have e1 : tabLane s ⟨d, by omega⟩ = Ideal.cos (angle s ⟨d, hd⟩) := by unfold tabLane; rw [dif_pos hd]
    have e2 : (⟨(d.val + 128 - 64) % 128, Nat.mod_lt _ (by norm_num)⟩ : Fin 128) = ⟨64 + (⟨d, hd⟩ : Fin 32), by dsimp only; omega⟩ :=
      Fin.ext (by dsimp only; omega)
    have e3 : tabLane s ⟨64 + (⟨d, hd⟩ : Fin 32), by dsimp only; omega⟩ = -Ideal.sin (angle s ⟨d, hd⟩) := by
      unfold tabLane
      rw [dif_neg (by dsimp only; omega), dif_neg (by dsimp only; omega), dif_pos (by dsimp only; omega)]
      exact congrArg (fun z => -Ideal.sin (angle s z)) (Fin.ext (by dsimp only; omega))
    dsimp only
    rw [e1, e2, e3, h1 ⟨d, hd⟩]
    exact congrArg (fun z => _ + u z * _) (Fin.ext (by dsimp only; omega))
  · rw [dif_neg hd, h0 d]
    have e1 : tabLane s ⟨d, by omega⟩ = Ideal.cos (angle s ⟨d - 32, by omega⟩) := by
      unfold tabLane; rw [dif_neg hd, dif_pos (by dsimp only; omega)]
    have e2 : (⟨(d.val + 128 - 64) % 128, Nat.mod_lt _ (by norm_num)⟩ : Fin 128) = ⟨96 + (⟨d - 32, by omega⟩ : Fin 32), by dsimp only; omega⟩ :=
      Fin.ext (by dsimp only; omega)
    have e3 : tabLane s ⟨96 + (⟨d - 32, by omega⟩ : Fin 32), by dsimp only; omega⟩ = Ideal.sin (angle s ⟨d - 32, by omega⟩) := by
      unfold tabLane
      rw [dif_neg (by dsimp only; omega), dif_neg (by dsimp only; omega), dif_neg (by dsimp only; omega)]
      exact congrArg (fun z => Ideal.sin (angle s z)) (Fin.ext (by dsimp only; omega))
    dsimp only
    rw [e1, e2, e3, h2 ⟨d - 32, by omega⟩]

/-- The operands the projections read, in terms of the arguments. -/
structure Reads (A : Args) (x : S65536x1024.Idx → EReal) (g : S1x1024.Idx → EReal) (w : S1024x896.Idx → EReal) : Prop where
  hx : ∀ (t : Fin 65536) (k : Fin 1024), x (ix2 t k) = A.x (bOf t) (sOf t) k
  hg : ∀ k : Fin 1024, g (ix2 0 k) = A.again k
  hw : ∀ (k : Fin 1024) (c : Fin 896), w (ix2 k c)
      = if c.val < 704 then A.win k ⟨4128 + c, by omega⟩
        else if c.val < 736 then A.win k ⟨4096 + c, by omega⟩
        else if c.val < 768 then A.win k ⟨4032 + c, by omega⟩
        else if c.val < 800 then A.win k ⟨2304 + c, by omega⟩
        else 0

section

variable {A : Args} {x : S65536x1024.Idx → EReal} {g : S1x1024.Idx → EReal} {w : S1024x896.Idx → EReal} (R : Reads A x g w)
include R

/-- The small projection is the combined one on permuted columns, with zeros at the end. -/
theorem small_eq (r : Fin 65536) (c : Fin 896) : rowSmall (fun k => x (ix2 r k)) g w c
    = if c.val < 704 then A.prj (bOf r) (sOf r) ⟨4128 + c, by omega⟩
      else if c.val < 736 then A.prj (bOf r) (sOf r) ⟨4096 + c, by omega⟩
      else if c.val < 768 then A.prj (bOf r) (sOf r) ⟨4032 + c, by omega⟩
      else if c.val < 800 then A.prj (bOf r) (sOf r) ⟨2304 + c, by omega⟩
      else 0 := by
  unfold rowSmall dotRms
  simp only [R.hx, R.hg, R.hw]
  split_ifs <;> first
    | rfl
    | simp only [mul_zero, Finset.sum_const_zero]

/-- The small projection at a column that is not padding. -/
theorem small_at (r : Fin 65536) (c : Fin 896) (n : Fin 9952)
    (h : c.val < 704 ∧ n.val = 4128 + c.val ∨ 704 ≤ c.val ∧ c.val < 736 ∧ n.val = 4096 + c.val
      ∨ 736 ≤ c.val ∧ c.val < 768 ∧ n.val = 4032 + c.val ∨ 768 ≤ c.val ∧ c.val < 800 ∧ n.val = 2304 + c.val) :
    rowSmall (fun k => x (ix2 r k)) g w c = A.prj (bOf r) (sOf r) n := by
  rw [small_eq R]
  split_ifs <;> first
    | (exfalso; omega)
    | exact congrArg (A.prj _ _) (Fin.ext (by dsimp only; omega))

/-- The queries before the rotation are the layer's on permuted columns. -/
theorem q_eq (qg : S1x384.Idx → EReal) (wq : S384x2048.Idx → EReal) (hqg : ∀ k : Fin 384, qg (ix2 0 k) = A.qg k)
    (hwq : ∀ (k : Fin 384) (n : Fin 2048), wq (ix2 k n)
      = if n.val % 256 < 192 then A.wq k ⟨n / 256 * 192 + n % 256 % 192, by omega⟩
        else if n.val % 256 < 224 then A.wq k ⟨n / 256 * 192 + (n % 256 - 32) % 192, by omega⟩
        else A.wq k ⟨n / 256 * 192 + (n % 256 - 96) % 192, by omega⟩)
    (r : Fin 65536) (n : Fin 2048) (j : Fin 1536)
    (h : n.val % 256 < 192 ∧ j.val = n.val / 256 * 192 + n.val % 256
      ∨ 192 ≤ n.val % 256 ∧ n.val % 256 < 224 ∧ j.val = n.val / 256 * 192 + (n.val % 256 - 32)
      ∨ 224 ≤ n.val % 256 ∧ j.val = n.val / 256 * 192 + (n.val % 256 - 96)) :
    rowQ (fun k => x (ix2 r k)) g w qg wq n = A.qv (bOf r) (sOf r) j := by
  unfold rowQ Args.qv
  have e1 : (fun j : Fin 384 => rowSmall (fun k => x (ix2 r k)) g w ⟨j, by omega⟩)
      = fun i : Fin 384 => A.prj (bOf r) (sOf r) ⟨4128 + i, by omega⟩ :=
    funext fun j => small_at R r _ _ (by dsimp only; omega)
  have e2 : (fun j : Fin 384 => qg (ix2 0 j)) = A.qg := funext hqg
  have e3 : (fun k : Fin 384 => wq (ix2 k n)) = fun k => A.wq k j := funext fun k => by
    rw [hwq]
    split_ifs <;> first
      | (exfalso; omega)
      | exact congrArg (A.wq k) (Fin.ext (by dsimp only; omega))
  rw [e1, e2, e3]

/-- The keys and values are the layer's on permuted columns. -/
theorem kv_eq (kvg : S1x256.Idx → EReal) (wkv : S256x2048.Idx → EReal) (hkvg : ∀ k : Fin 256, kvg (ix2 0 k) = A.kvg k)
    (hwkv : ∀ (k : Fin 256) (n : Fin 2048), wkv (ix2 k n) = A.wkv k ⟨n % 1024 / 128 * 256 + n / 1024 * 128 + n % 128, by omega⟩)
    (r : Fin 65536) (n : Fin 2048) :
    rowKV (fun k => x (ix2 r k)) g w kvg wkv n
      = A.kvv (bOf r) (sOf r) ⟨n % 1024 / 128 * 256 + n / 1024 * 128 + n % 128, by omega⟩ := by
  unfold rowKV Args.kvv
  have e1 : (fun j : Fin 256 => rowSmall (fun k => x (ix2 r k)) g w ⟨384 + j, by omega⟩)
      = fun i : Fin 256 => A.prj (bOf r) (sOf r) ⟨4512 + i, by omega⟩ :=
    funext fun j => small_at R r _ _ (by dsimp only; omega)
  have e2 : (fun j : Fin 256 => kvg (ix2 0 j)) = A.kvg := funext hkvg
  rw [e1, e2]
  simp only [hwkv]

/-- The queries that the kernel prepares are the layer's, scaled. -/
theorem qArr_eq (qg : S1x384.Idx → EReal) (wq : S384x2048.Idx → EReal) (tab : S2048x128.Idx → EReal)
    (hqg : ∀ k : Fin 384, qg (ix2 0 k) = A.qg k)
    (hwq : ∀ (k : Fin 384) (n : Fin 2048), wq (ix2 k n)
      = if n.val % 256 < 192 then A.wq k ⟨n / 256 * 192 + n % 256 % 192, by omega⟩
        else if n.val % 256 < 224 then A.wq k ⟨n / 256 * 192 + (n % 256 - 32) % 192, by omega⟩
        else A.wq k ⟨n / 256 * 192 + (n % 256 - 96) % 192, by omega⟩)
    (htab : ∀ (s : Fin 2048) (n : Fin 128), tab (ix2 s n) = tabLane s n * (qScale : EReal))
    (r : Fin 65536) (h : Fin 8) (d : Fin 192) (c : Fin 2048) (hc : c.val = h * 256 + d) :
    qArr x g w qg wq tab (ix2 r c) = A.qf (bOf r) (sOf r) h d * (qScale : EReal) := by
  have hq := q_eq R qg wq hqg hwq r
  show laneQ (rowQ (fun k => x (ix2 r k)) g w qg wq) (tabRow tab r.val) c = _
  have et : tabRow tab r.val = fun m => tabLane (sOf r) m * (qScale : EReal) := funext fun m => htab _ _
  generalize rowQ (fun k => x (ix2 r k)) g w qg wq = Q at hq
  rw [et]
  unfold laneQ Args.qf
  by_cases hd : d.val < 128
  · rw [if_pos (by omega), dif_pos hd, hq c ⟨192 * h + d, by omega⟩ (by dsimp only; omega)]
    rfl
  · rw [if_neg (by omega), dif_neg hd, turn_scaled]
    have e : (⟨c.val % 256 - 128, by omega⟩ : Fin 128) = ⟨(⟨d - 128, by omega⟩ : Fin 64), by dsimp only; omega⟩ :=
      Fin.ext (by dsimp only; omega)
    rw [e, turn_rope (fun m => A.qv (bOf r) (sOf r) ⟨192 * h + 128 + m, by omega⟩) _ (sOf r)]
    · exact fun m => hq _ _ (by dsimp only; omega)
    · exact fun m => hq _ _ (by dsimp only; omega)
    · exact fun m => hq _ _ (by dsimp only; omega)

/-- The keys that the kernel prepares are the layer's. -/
theorem kArr_eq (kvg : S1x256.Idx → EReal) (wkv : S256x2048.Idx → EReal) (tab : S2048x128.Idx → EReal)
    (hkvg : ∀ k : Fin 256, kvg (ix2 0 k) = A.kvg k)
    (hwkv : ∀ (k : Fin 256) (n : Fin 2048), wkv (ix2 k n) = A.wkv k ⟨n % 1024 / 128 * 256 + n / 1024 * 128 + n % 128, by omega⟩)
    (htab : ∀ (s : Fin 2048) (n : Fin 128), tab (ix2 s n) = tabLane s n)
    (r : Fin 65536) (h : Fin 8) (d : Fin 192) (c : Fin 2048) (hc : c.val = h * 256 + d) :
    kArr x g w kvg wkv tab (ix2 r c) = A.kf (bOf r) (sOf r) h d := by
  have hk := kv_eq R kvg wkv hkvg hwkv r
  have hp := fun (m : Fin 128) (n : Fin 9952) => small_at R r ⟨640 + m, by omega⟩ n
  show laneK (rowKV (fun k => x (ix2 r k)) g w kvg wkv) (fun m => rowSmall (fun k => x (ix2 r k)) g w ⟨640 + m, by omega⟩)
    (tabRow tab r.val) c = _
  have et : tabRow tab r.val = tabLane (sOf r) := funext fun m => htab _ _
  generalize rowKV (fun k => x (ix2 r k)) g w kvg wkv = Q at hk
  rw [et]
  unfold laneK Args.kf
  by_cases hd : d.val < 128
  · rw [if_pos (by omega), dif_pos hd, hk]
    exact congrArg (A.kvv _ _) (Fin.ext (by dsimp only; omega))
  · rw [if_neg (by omega), if_pos (by omega), dif_neg hd]
    have e : (⟨c.val % 256 - 128, by omega⟩ : Fin 128) = ⟨(⟨d - 128, by omega⟩ : Fin 64), by dsimp only; omega⟩ :=
      Fin.ext (by dsimp only; omega)
    rw [e, turn_rope (fun m => A.prj (bOf r) (sOf r) ⟨4768 + m, by omega⟩) _ (sOf r)]
    · exact fun m => hp _ _ (by dsimp only; omega)
    · exact fun m => hp _ _ (by dsimp only; omega)
    · exact fun m => hp _ _ (by dsimp only; omega)

/-- The last 64 lanes of each head's keys are zero. -/
theorem kArr_zero (kvg : S1x256.Idx → EReal) (wkv : S256x2048.Idx → EReal) (tab : S2048x128.Idx → EReal)
    (r : Fin 65536) (c : Fin 2048) (hc : 192 ≤ c.val % 256) : kArr x g w kvg wkv tab (ix2 r c) = 0 := by
  show laneK (rowKV (fun k => x (ix2 r k)) g w kvg wkv) (fun m => rowSmall (fun k => x (ix2 r k)) g w ⟨640 + m, by omega⟩)
    (tabRow tab r.val) c = _
  unfold laneK
  rw [if_neg (by omega), if_neg (by omega)]

/-- The values that the kernel prepares are the layer's. -/
theorem vArr_eq (kvg : S1x256.Idx → EReal) (wkv : S256x2048.Idx → EReal) (hkvg : ∀ k : Fin 256, kvg (ix2 0 k) = A.kvg k)
    (hwkv : ∀ (k : Fin 256) (n : Fin 2048), wkv (ix2 k n) = A.wkv k ⟨n % 1024 / 128 * 256 + n / 1024 * 128 + n % 128, by omega⟩)
    (r : Fin 65536) (n : Fin 1024) :
    vArr x g w kvg wkv (ix2 r n) = A.kvv (bOf r) (sOf r) ⟨256 * (n / 128) + 128 + n % 128, by omega⟩ := by
  refine (kv_eq R kvg wkv hkvg hwkv r ⟨1024 + n, by omega⟩).trans ?_
  exact congrArg (A.kvv _ _) (Fin.ext (by dsimp only; omega))

/-- The decays and betas that the kernel prepares are the layer's. -/
theorem gbArr_eq (alog dtb : S1x128.Idx → EReal)
    (ha : ∀ l : Fin 128, alog (ix2 0 l) = if h : l.val < 16 then A.alog ⟨l / 8, by omega⟩ ⟨l % 8, by omega⟩ else 0)
    (hdt : ∀ l : Fin 128, dtb (ix2 0 l) = if h : l.val < 16 then A.dtb ⟨l / 8, by omega⟩ ⟨l % 8, by omega⟩ else 0)
    (r : Fin 65536) (l : Fin 128) : gbArr x g w alog dtb (ix2 r l) = A.gb (bOf r) (sOf r) l := by
  have hab : ∀ r : Fin 65536, l.val < 32 → abArr x g w r l = A.prj (bOf r) (sOf r) ⟨3072 + l, by omega⟩ := fun r hl =>
    small_at R r ⟨768 + l, by omega⟩ _ (by dsimp only; omega)
  have hdec : ∀ (r r' : Fin 65536) (s' : Fin 2048) (hb : bOf r' = bOf r) (hs : sOf r' = s') (d : Fin 2) (h : Fin 8), l.val = 8 * d + h →
      decArr x g w alog dtb r' l = A.dec (bOf r) s' d h := fun r r' s' hb hs d h hl => by
    unfold decArr Args.dec
    rw [hab r' (by omega), ha l, hdt l, dif_pos (by omega), dif_pos (by omega), hb, hs]
    have e1 : (⟨l.val / 8, by omega⟩ : Fin 2) = d := Fin.ext (by dsimp only; omega)
    have e2 : (⟨l.val % 8, by omega⟩ : Fin 8) = h := Fin.ext (by dsimp only; omega)
    have e3 : (⟨3072 + l.val, by omega⟩ : Fin 9952) = ⟨3072 + 8 * d + h, by omega⟩ := Fin.ext (by dsimp only; omega)
    rw [e1, e2, e3]
  have hsr : (sOf r).val % 64 = r.val % 64 := by show r.val % 2048 % 64 = _; omega
  unfold gbArr Args.gb
  show (if l.val < 8 then
      ∑ j : Fin 64, decArr x g w alog dtb ⟨r.val / 64 * 64 + j, by omega⟩ l * (if (j : ℕ) ≤ r.val % 64 then 1 else 0)
    else if l.val < 16 then
      ∑ j : Fin 64, decArr x g w alog dtb ⟨r.val / 64 * 64 + j, by omega⟩ l * (if r.val % 64 ≤ (j : ℕ) then 1 else 0)
    else if l.val < 32 then logistic (abArr x g w r l) else 0) = _
  by_cases h8 : l.val < 8
  · rw [if_pos h8, dif_pos h8]
    refine Finset.sum_congr rfl fun j _ => ?_
    rw [hsr, hdec r _ _ _ _ 0 ⟨l, h8⟩ (by dsimp only; simp)]
    · exact Fin.ext (by show (r.val / 64 * 64 + j.val) / 2048 = r.val / 2048; omega)
    · exact Fin.ext (by show (r.val / 64 * 64 + j.val) % 2048 = r.val % 2048 / 64 * 64 + j.val; omega)
  · rw [if_neg h8, dif_neg h8]
    by_cases h16 : l.val < 16
    · rw [if_pos h16, dif_pos h16]
      refine Finset.sum_congr rfl fun j _ => ?_
      rw [hsr, hdec r _ _ _ _ 1 ⟨l - 8, by omega⟩ (by dsimp only; simp; omega)]
      · exact Fin.ext (by show (r.val / 64 * 64 + j.val) / 2048 = r.val / 2048; omega)
      · exact Fin.ext (by show (r.val / 64 * 64 + j.val) % 2048 = r.val % 2048 / 64 * 64 + j.val; omega)
    · rw [if_neg h16, dif_neg h16]
      by_cases h32 : l.val < 32
      · rw [if_pos h32, dif_pos h32, hab r h32]
      · rw [if_neg h32, dif_neg h32]

end

end Cert.Layer

end
-- ==== Proof.SpecOut.lean ====
/- The attentions' and the closing kernel's results, as functions of the arrays they read, are the layer's. -/
module

public import proofs.«01_k».proof.Proof.Spec
public import proofs.«01_k».proof.Proof.Region0
public import proofs.«01_k».proof.Proof.Region2
public import proofs.«01_k».proof.Proof.Region3
public import proofs.«01_k».proof.Proof.Region4

@[expose] public section

set_option maxRecDepth 16384

noncomputable section

namespace Cert.Layer

open Idealize.ShloMosaic Idealize.ShloMosaic.TcCoe Idealize.SL.Sem
open Cert.KernelIdeal Cert.KernelIdeal.Gen

variable {A : Args}

/-- The projection kernel's result is the layer's. -/
theorem projArr_eq (x : S65536x1024.Idx → EReal) (g : S1x1024.Idx → EReal) (w : S2x1024x3072.Idx → EReal)
    (hx : ∀ (t : Fin 65536) (k : Fin 1024), x (ix2 t k) = A.x (bOf t) (sOf t) k) (hg : ∀ k : Fin 1024, g (ix2 0 k) = A.again k)
    (hw : ∀ (g : Fin 2) (k : Fin 1024) (n : Fin 3072), w (ix3 g k n)
      = if g.val = 0 then A.win k ⟨n, by omega⟩
        else if n.val < 1024 then A.win k ⟨3104 + n, by omega⟩
        else if h2 : n.val < 2048 then A.win k ⟨4832 + (n - 1024), by omega⟩
        else if h3 : n.val < 2560 then A.win k ⟨6368 + (n - 2048), by omega⟩
        else A.win k ⟨5856 + (n - 2560), by omega⟩)
    (s : Fin 2) (t : Fin 65536) (n : Fin 3072) : projArr x g w (ix3 s t n) = A.pz s (bOf t) (sOf t) n := by
  show ∑ k : Fin 1024, rms (Ideal.ofBits .f32 0x44800000#32) (fun k => x (ix2 t k)) (fun k => g (ix2 0 k)) k * w (ix3 s k n) = _
  simp only [hx, hg, hw]
  unfold Args.pz
  split_ifs <;> rfl

/-- A sum over 256 lanes whose last 64 terms are zero is one over 192. -/
theorem sum_lanes (f : Fin 256 → EReal) (h : ∀ l : Fin 64, f ⟨192 + l, by omega⟩ = 0) :
    ∑ l : Fin 256, f l = ∑ d : Fin 192, f ⟨d, by omega⟩ := by
  rw [show ∑ l : Fin 256, f l = ∑ d : Fin 192, f ⟨d, by omega⟩ + ∑ l : Fin 64, f ⟨192 + l, by omega⟩ from
    Fin.sum_univ_add (a := 192) (b := 64) f]
  rw [Finset.sum_eq_zero fun l _ => h l, add_zero]

/-- The latent attention kernel's result is the layer's. -/
theorem attnArr_eq (q k : S65536x2048.Idx → EReal) (v : S65536x1024.Idx → EReal) (z : S2x65536x3072.Idx → EReal)
    (hq : ∀ (r : Fin 65536) (h : Fin 8) (d : Fin 192) (c : Fin 2048), c.val = h * 256 + d →
      q (ix2 r c) = A.qf (bOf r) (sOf r) h d * (qScale : EReal))
    (hk : ∀ (r : Fin 65536) (h : Fin 8) (d : Fin 192) (c : Fin 2048), c.val = h * 256 + d →
      k (ix2 r c) = A.kf (bOf r) (sOf r) h d)
    (hk0 : ∀ (r : Fin 65536) (c : Fin 2048), 192 ≤ c.val % 256 → k (ix2 r c) = 0)
    (hv : ∀ (r : Fin 65536) (n : Fin 1024), v (ix2 r n) = A.kvv (bOf r) (sOf r) ⟨256 * (n / 128) + 128 + n % 128, by omega⟩)
    (hz : ∀ (s : Fin 2) (t : Fin 65536) (n : Fin 3072), z (ix3 s t n) = A.pz s (bOf t) (sOf t) n)
    (r : Fin 65536) (n : Fin 1024) : attnArr q k v z (ix2 r n) = A.omla (bOf r) (sOf r) n := by
  have hb : ∀ j : Fin 2048, bOf (keyRow r j) = bOf r := fun j =>
    Fin.ext (by show (r.val / 2048 * 2048 + j.val) / 2048 = r.val / 2048; omega)
  have hs : ∀ j : Fin 2048, sOf (keyRow r j) = j := fun j =>
    Fin.ext (by show (r.val / 2048 * 2048 + j.val) % 2048 = j.val; omega)
  have hsc : ∀ j : Fin 2048, attnScore q k r n j
      = (∑ d : Fin 192, A.qf (bOf r) (sOf r) ⟨n / 128, by omega⟩ d * A.kf (bOf r) j ⟨n / 128, by omega⟩ d)
          * (((Real.sqrt 192)⁻¹ : ℝ) : EReal) * ilog2 := fun j => by
    unfold attnScore
    rw [sum_lanes _ fun l => by rw [hk0 _ _ (by dsimp only; omega), mul_zero]]
    have e : ((((Real.sqrt 192)⁻¹ : ℝ) : EReal)) * ilog2 = (qScale : EReal) := (EReal.coe_mul _ _).symm
    rw [mul_assoc, e, mul_comm _ (qScale : EReal), mul_sum_pos qScale_pos]
    refine Finset.sum_congr rfl fun d _ => ?_
    rw [hq r ⟨n / 128, by omega⟩ d _ rfl, hk (keyRow r j) ⟨n / 128, by omega⟩ d _ rfl, hb, hs]
    rw [mul_comm (A.qf _ _ _ _), mul_assoc]
  have hpz : A.pz 1 (bOf r) (sOf r) ⟨1024 + n.val, by omega⟩ = A.prj (bOf r) (sOf r) ⟨4832 + n, by omega⟩ := by
    unfold Args.pz
    rw [if_neg (by decide), if_neg (by dsimp only; omega), dif_pos (by dsimp only; omega)]
    exact congrArg (A.prj _ _) (Fin.ext (by dsimp only; omega))
  show Ideal.div
      (∑ j : Fin 2048, Ideal.exp2 (attnScore q k r n j
          - Finset.univ.fold max (⊥ : EReal) (fun j : Fin 2048 => attnScore q k r n j)) * v (ix2 (keyRow r j) n))
      (∑ j : Fin 2048, Ideal.exp2 (attnScore q k r n j
          - Finset.univ.fold max (⊥ : EReal) (fun j : Fin 2048 => attnScore q k r n j)))
    * (z (ix3 1 r ⟨1024 + n.val, by omega⟩) * logistic (z (ix3 1 r ⟨1024 + n.val, by omega⟩))) = _
  simp only [hsc, hv, hz, hb, hs, hpz]
  rw [attn_exp2 (fun j => (∑ d : Fin 192, A.qf (bOf r) (sOf r) ⟨n / 128, by omega⟩ d * A.kf (bOf r) j ⟨n / 128, by omega⟩ d)
          * (((Real.sqrt 192)⁻¹ : ℝ) : EReal)) (fun j => A.kvv (bOf r) j ⟨256 * (n / 128) + 128 + n % 128, by omega⟩)]
  rfl

/-- The memory's keys and values are the layer's. -/
theorem memArr_eq (m : S32x256x1024.Idx → EReal) (g : S1x1024.Idx → EReal) (w : S1024x1024.Idx → EReal)
    (hm : ∀ (b : Fin 32) (j : Fin 256) (k : Fin 1024), m (ix3 b j k) = A.mem b j k) (hg : ∀ k : Fin 1024, g (ix2 0 k) = A.mgain k)
    (hw : ∀ k n : Fin 1024, w (ix2 k n) = A.wmem k n) (b : Fin 32) (j : Fin 256) (n : Fin 1024) :
    memArr m g w (ix3 b j n) = A.mkv b j n := by
  show ∑ k : Fin 1024, rms (Ideal.ofBits .f32 0x44800000#32) (fun k => m (ix3 b j k)) (fun k => g (ix2 0 k)) k * w (ix2 k n) = _
  simp only [hm, hg, hw]
  rfl

/-- The memory attention is the layer's. -/
theorem memOut_eq (kv : S32x256x1024.Idx → EReal) (z : S2x65536x3072.Idx → EReal)
    (hkv : ∀ (b : Fin 32) (j : Fin 256) (n : Fin 1024), kv (ix3 b j n) = A.mkv b j n)
    (hz : ∀ (s : Fin 2) (t : Fin 65536) (n : Fin 3072), z (ix3 s t n) = A.pz s (bOf t) (sOf t) n)
    (t : Fin 65536) (c : Fin 512) : memOut kv z t c = A.omem (bOf t) (sOf t) c := by
  have h1 : ∀ c : Fin 512, A.pz 1 (bOf t) (sOf t) ⟨2048 + c.val, by omega⟩ = A.prj (bOf t) (sOf t) ⟨6368 + c, by omega⟩ := fun c => by
    unfold Args.pz
    rw [if_neg (by decide), if_neg (by dsimp only; omega), dif_neg (by dsimp only; omega), dif_pos (by dsimp only; omega)]
    exact congrArg (A.prj _ _) (Fin.ext (by dsimp only; omega))
  have h2 : ∀ d : Fin 128, A.pz 1 (bOf t) (sOf t) ⟨2048 + (512 + (c.val / 128 * 128 + d.val)), by omega⟩
      = A.prj (bOf t) (sOf t) ⟨5856 + (c / 128 * 128 + d), by omega⟩ := fun d => by
    unfold Args.pz
    rw [if_neg (by decide), if_neg (by dsimp only; omega), dif_neg (by dsimp only; omega), dif_neg (by dsimp only; omega)]
    exact congrArg (A.prj _ _) (Fin.ext (by dsimp only; omega))
  unfold memOut
  simp only [hkv, hz, h1, h2]
  rfl

/-- The operands the closing kernel reads, in terms of the arguments. -/
structure OutReads (A : Args) (x : S65536x1024.Idx → EReal) (g : S1x1024.Idx → EReal) (w : S1024x3072.Idx → EReal)
    (og ol : S65536x1024.Idx → EReal) (z : S2x65536x3072.Idx → EReal) (kv : S32x256x1024.Idx → EReal)
    (wbg wbm : S1024x1024.Idx → EReal) (wbe : S512x1024.Idx → EReal) (wo : S1024x1024.Idx → EReal) (fg : S1x1024.Idx → EReal) : Prop where
  hx : ∀ (t : Fin 65536) (k : Fin 1024), x (ix2 t k) = A.x (bOf t) (sOf t) k
  hg : ∀ k : Fin 1024, g (ix2 0 k) = A.again k
  hw : ∀ (k : Fin 1024) (n : Fin 3072), w (ix2 k n) = A.win k ⟨6880 + n, by omega⟩
  hog : ∀ (t : Fin 65536) (k : Fin 1024), og (ix2 t k) = A.og t k
  hol : ∀ (t : Fin 65536) (k : Fin 1024), ol (ix2 t k) = A.omla (bOf t) (sOf t) k
  hz : ∀ (s : Fin 2) (t : Fin 65536) (n : Fin 3072), z (ix3 s t n) = A.pz s (bOf t) (sOf t) n
  hkv : ∀ (b : Fin 32) (j : Fin 256) (n : Fin 1024), kv (ix3 b j n) = A.mkv b j n
  hwbg : ∀ k n : Fin 1024, wbg (ix2 k n) = A.wbg k n
  hwbm : ∀ k n : Fin 1024, wbm (ix2 k n) = A.wbm k n
  hwbe : ∀ (k : Fin 512) (n : Fin 1024), wbe (ix2 k n) = A.wbe k n
  hwo : ∀ k n : Fin 1024, wo (ix2 k n) = A.wo k n
  hfg : ∀ k : Fin 1024, fg (ix2 0 k) = A.fgain k

section

variable {x : S65536x1024.Idx → EReal} {g : S1x1024.Idx → EReal} {w : S1024x3072.Idx → EReal}
  {og ol : S65536x1024.Idx → EReal} {z : S2x65536x3072.Idx → EReal} {kv : S32x256x1024.Idx → EReal}
  {wbg wbm : S1024x1024.Idx → EReal} {wbe : S512x1024.Idx → EReal} {wo : S1024x1024.Idx → EReal} {fg : S1x1024.Idx → EReal}
  (R : OutReads A x g w og ol z kv wbg wbm wbe wo fg)
include R

/-- The merge gates are the layer's. -/
theorem gateArr_eq (t : Fin 65536) (c : Fin 3072) : gateArr x g w t c = logistic (A.prj (bOf t) (sOf t) ⟨6880 + c, by omega⟩) := by
  unfold gateArr
  simp only [R.hx, R.hg, R.hw]
  rfl

/-- The gated merge is the layer's. -/
theorem mergeArr_eq (t : Fin 65536) (c : Fin 1024) :
    mergeArr (gateArr x g w) og ol (memOut kv z) wbg wbm wbe t c = A.merged (bOf t) (sOf t) c := by
  have e0 : (⟨6880 + (1024 + c.val), by omega⟩ : Fin 9952) = ⟨7904 + c, by omega⟩ := Fin.ext (by dsimp only; omega)
  have e1 : (⟨6880 + (2048 + c.val), by omega⟩ : Fin 9952) = ⟨8928 + c, by omega⟩ := Fin.ext (by dsimp only; omega)
  have e2 : (⟨2048 * (bOf t).val + (sOf t).val, by omega⟩ : Fin 65536) = t :=
    Fin.ext (by show 2048 * (t.val / 2048) + t.val % 2048 = t.val; omega)
  unfold mergeArr Args.merged
  simp only [gateArr_eq R, R.hog, R.hol, memOut_eq kv z R.hkv R.hz, R.hwbg, R.hwbm, R.hwbe, e0, e1, e2]

/-- The closing kernel's result is the layer's. -/
theorem outArr_eq (t : Fin 65536) (n : Fin 1024) :
    outArr x g w og ol z kv wbg wbm wbe wo fg (ix2 t n) = A.y (bOf t) (sOf t) n := by
  show rms (Ideal.ofBits .f32 0x44800000#32)
    (fun c : Fin 1024 => x (ix2 t c) + ∑ k : Fin 1024, mergeArr (gateArr x g w) og ol (memOut kv z) wbg wbm wbe t k * wo (ix2 k c))
    (fun k => fg (ix2 0 k)) n = _
  simp only [mergeArr_eq R, R.hx, R.hwo, R.hfg]
  rfl

end

end Cert.Layer

end
-- ==== Proof.Host.lean ====
/- What the kernels' operands hold before the first kernel runs, read at an index from the arguments. -/
module

public import proofs.«01_k».proof.Proof.Gen.KernelIdeal.Launch
public import proofs.«01_k».proof.Proof.Spec
public import Idealize.ShloMosaic.Lib.Pointwise
public import Idealize.ShloMosaic.Lib.StableHlo.ReadAt

@[expose] public section

set_option maxRecDepth 16384

noncomputable section

namespace Cert.Layer

open Idealize.ShloMosaic Idealize.ShloMosaic.TcCoe Idealize.SL.Sem
open Cert.KernelIdeal Cert.KernelIdeal.Gen

variable (V : Valuation τ Cert.KernelIdeal.sig (Elt Ideal))

/-- The arguments as plain functions. -/
def argsV : Args where
  x b s k := (V (Proc.devRef .tc main_arg0) : S32x2048x1024.Idx → EReal) (ix3 b s k)
  mem b j k := (V (Proc.devRef .tc main_arg1) : S32x256x1024.Idx → EReal) (ix3 b j k)
  again k := (V (Proc.devRef .tc main_arg2) : S1x1024.Idx → EReal) (ix2 0 k)
  win k n := (V (Proc.devRef .tc main_arg3) : S1x1024x9952.Idx → EReal) (ix3 0 k n)
  alog d h := (V (Proc.devRef .tc main_arg4) : S1x2x8.Idx → EReal) (ix3 0 d h)
  dtb d h := (V (Proc.devRef .tc main_arg5) : S1x2x8.Idx → EReal) (ix3 0 d h)
  qg j := (V (Proc.devRef .tc main_arg6) : S1x384.Idx → EReal) (ix2 0 j)
  wq k n := (V (Proc.devRef .tc main_arg7) : S1x384x1536.Idx → EReal) (ix3 0 k n)
  kvg j := (V (Proc.devRef .tc main_arg8) : S1x256.Idx → EReal) (ix2 0 j)
  wkv k n := (V (Proc.devRef .tc main_arg9) : S1x256x2048.Idx → EReal) (ix3 0 k n)
  mgain k := (V (Proc.devRef .tc main_arg10) : S1x1024.Idx → EReal) (ix2 0 k)
  wmem k n := (V (Proc.devRef .tc main_arg11) : S1x1024x1024.Idx → EReal) (ix3 0 k n)
  wbg k n := (V (Proc.devRef .tc main_arg12) : S1x1024x1024.Idx → EReal) (ix3 0 k n)
  wbm k n := (V (Proc.devRef .tc main_arg13) : S1x1024x1024.Idx → EReal) (ix3 0 k n)
  wbe k n := (V (Proc.devRef .tc main_arg14) : S1x512x1024.Idx → EReal) (ix3 0 k n)
  wo k n := (V (Proc.devRef .tc main_arg15) : S1x1024x1024.Idx → EReal) (ix3 0 k n)
  fgain k := (V (Proc.devRef .tc main_arg16) : S1024.Idx → EReal) (ix1 k)
  og t k := (V (Proc.devRef .tc main_arg17) : S65536x1024.Idx → EReal) (ix2 t k)

/-- The queries' scale as the host computes it. -/
def hostScale : EReal := Ideal.div 1 (Ideal.sqrt (Ideal.ofBits .f32 0x43400000#32) * Ideal.log (Ideal.ofBits .f32 0x40000000#32))

theorem read_x2 (t : Fin 65536) (k : Fin 1024) :
    StableHlo.after (hostOps0 (F := Ideal)) V (Proc.devRef .tc main_v74) (ix2 t k) = (argsV V).x ⟨t / 2048, by omega⟩ ⟨t % 2048, by omega⟩ k := by
  unfold argsV
  after_reads_at

theorem read_again (k : Fin 1024) : StableHlo.after (hostOps0 (F := Ideal)) V (Proc.devRef .tc main_v44) (ix2 0 k) = (argsV V).again k := by
  unfold argsV
  after_reads_at

theorem read_qg (k : Fin 384) : StableHlo.after (hostOps0 (F := Ideal)) V (Proc.devRef .tc main_v47) (ix2 0 k) = (argsV V).qg k := by
  unfold argsV
  after_reads_at

theorem read_kvg (k : Fin 256) : StableHlo.after (hostOps0 (F := Ideal)) V (Proc.devRef .tc main_v49) (ix2 0 k) = (argsV V).kvg k := by
  unfold argsV
  after_reads_at

theorem read_mgain (k : Fin 1024) : StableHlo.after (hostOps0 (F := Ideal)) V (Proc.devRef .tc main_v62) (ix2 0 k) = (argsV V).mgain k := by
  unfold argsV
  after_reads_at

theorem read_wmem (k n : Fin 1024) : StableHlo.after (hostOps0 (F := Ideal)) V (Proc.devRef .tc main_v64) (ix2 k n) = (argsV V).wmem k n := by
  unfold argsV
  after_reads_at

theorem read_wbg (k n : Fin 1024) : StableHlo.after (hostOps0 (F := Ideal)) V (Proc.devRef .tc main_v66) (ix2 k n) = (argsV V).wbg k n := by
  unfold argsV
  after_reads_at

theorem read_wbm (k n : Fin 1024) : StableHlo.after (hostOps0 (F := Ideal)) V (Proc.devRef .tc main_v68) (ix2 k n) = (argsV V).wbm k n := by
  unfold argsV
  after_reads_at

theorem read_wbe (k : Fin 512) (n : Fin 1024) : StableHlo.after (hostOps0 (F := Ideal)) V (Proc.devRef .tc main_v70) (ix2 k n) = (argsV V).wbe k n := by
  unfold argsV
  after_reads_at

theorem read_wo (k n : Fin 1024) : StableHlo.after (hostOps0 (F := Ideal)) V (Proc.devRef .tc main_v72) (ix2 k n) = (argsV V).wo k n := by
  unfold argsV
  after_reads_at

theorem read_fgain (k : Fin 1024) : StableHlo.after (hostOps0 (F := Ideal)) V (Proc.devRef .tc main_v73) (ix2 0 k) = (argsV V).fgain k := by
  unfold argsV
  after_reads_at

theorem read_wgate (k : Fin 1024) (n : Fin 3072) : StableHlo.after (hostOps0 (F := Ideal)) V (Proc.devRef .tc main_v45) (ix2 k n) = (argsV V).win k ⟨6880 + n, by omega⟩ := by
  unfold argsV
  after_reads_at

end Cert.Layer

end
-- ==== Proof.HostTables.lean ====
/- What the weights, tables and padded rows prepared for the kernels hold, read at an index from the arguments. -/
module

public import proofs.«01_k».proof.Proof.Host

@[expose] public section

set_option maxRecDepth 16384

noncomputable section

namespace Cert.Layer

open Idealize.ShloMosaic Idealize.ShloMosaic.TcCoe Idealize.SL.Sem
open Cert.KernelIdeal Cert.KernelIdeal.Gen

variable (V : Valuation τ Cert.KernelIdeal.sig (Elt Ideal))

/-- The stacked weights of the projection kernel. -/
theorem read_wbig (g : Fin 2) (k : Fin 1024) (n : Fin 3072) :
    (StableHlo.after (hostOps0 (F := Ideal)) V (Proc.devRef .tc main_v16) : S2x1024x3072.Idx → EReal) (ix3 g k n)
      = if g.val = 0 then (argsV V).win k ⟨n, by omega⟩
        else if n.val < 1024 then (argsV V).win k ⟨3104 + n, by omega⟩
        else if h2 : n.val < 2048 then (argsV V).win k ⟨4832 + (n - 1024), by omega⟩
        else if h3 : n.val < 2560 then (argsV V).win k ⟨6368 + (n - 2048), by omega⟩
        else (argsV V).win k ⟨5856 + (n - 2560), by omega⟩ := by
  unfold argsV
  after_reads_at
  after_reads_at
  after_reads_at
  exact big_cols (fun z => (V (Proc.devRef .tc main_arg3) : S1x1024x9952.Idx → EReal) (ix3 0 k z)) g n

/-- The columns of the small projection's weights, counted piece by piece or from the start. -/
theorem small_cols (f : Fin 9952 → EReal) (c : Fin 896) :
    (if h : c.val < 384 then f ⟨4128 + c, by omega⟩
     else if h : c.val - 384 < 256 then f ⟨4512 + (c - 384), by omega⟩
     else if h : c.val - 384 - 256 < 128 then
       if h1 : c.val - 384 - 256 < 32 then f ⟨4512 + (256 + (c - 384 - 256)), by omega⟩
       else if h2 : c.val - 384 - 256 - 32 < 32 then f ⟨4512 + (256 + (32 + (c - 384 - 256 - 32))), by omega⟩
       else if h3 : c.val - 384 - 256 - 32 - 32 < 32 then f ⟨4512 + (256 + (32 + (c - 384 - 256 - 32 - 32))), by omega⟩
       else f ⟨4512 + (256 + (c - 384 - 256 - 32 - 32 - 32)), by omega⟩
     else if h : c.val - 384 - 256 - 128 < 32 then f ⟨3072 + (c - 384 - 256 - 128), by omega⟩
     else 0)
      = if c.val < 704 then f ⟨4128 + c, by omega⟩
        else if c.val < 736 then f ⟨4096 + c, by omega⟩
        else if c.val < 768 then f ⟨4032 + c, by omega⟩
        else if c.val < 800 then f ⟨2304 + c, by omega⟩
        else 0 := by
  split_ifs <;> first
    | (exfalso; omega)
    | exact congrArg f (Fin.ext (by dsimp only; omega))
    | rfl

/-- The weights of the small projection. -/
theorem read_wsmall (k : Fin 1024) (c : Fin 896) :
    (StableHlo.after (hostOps0 (F := Ideal)) V (Proc.devRef .tc main_v24) : S1024x896.Idx → EReal) (ix2 k c)
      = if c.val < 704 then (argsV V).win k ⟨4128 + c, by omega⟩
        else if c.val < 736 then (argsV V).win k ⟨4096 + c, by omega⟩
        else if c.val < 768 then (argsV V).win k ⟨4032 + c, by omega⟩
        else if c.val < 800 then (argsV V).win k ⟨2304 + c, by omega⟩
        else 0 := by
  unfold argsV
  after_reads_at
  after_reads_at
  after_reads_at
  exact small_cols (fun z => (V (Proc.devRef .tc main_arg3) : S1x1024x9952.Idx → EReal) (ix3 0 k z)) c

/-- The columns of the query's weights, counted piece by piece or from the head's start. -/
theorem q_cols (f : Fin 1536 → EReal) (n : Fin 2048) :
    (if h : n.val % 256 < 128 then f ⟨n / 256 * 192 + n % 256, by omega⟩
     else if h1 : n.val % 256 - 128 < 32 then f ⟨n / 256 * 192 + (128 + (n % 256 - 128)), by omega⟩
     else if h2 : n.val % 256 - 128 - 32 < 32 then
       f ⟨n / 256 * 192 + (128 + (32 + (n % 256 - 128 - 32))), by omega⟩
     else if h3 : n.val % 256 - 128 - 32 - 32 < 32 then
       f ⟨n / 256 * 192 + (128 + (32 + (n % 256 - 128 - 32 - 32))), by omega⟩
     else f ⟨n / 256 * 192 + (128 + (n % 256 - 128 - 32 - 32 - 32)), by omega⟩)
      = if n.val % 256 < 192 then f ⟨n / 256 * 192 + n % 256 % 192, by omega⟩
        else if n.val % 256 < 224 then f ⟨n / 256 * 192 + (n % 256 - 32) % 192, by omega⟩
        else f ⟨n / 256 * 192 + (n % 256 - 96) % 192, by omega⟩ := by
  split_ifs <;> first
    | (exfalso; omega)
    | exact congrArg f (Fin.ext (by dsimp only; omega))
    | rfl

/-- The query's weights, each head's rotated columns there twice. -/
theorem read_wq (k : Fin 384) (n : Fin 2048) :
    (StableHlo.after (hostOps0 (F := Ideal)) V (Proc.devRef .tc main_v34) : S384x2048.Idx → EReal) (ix2 k n)
      = if n.val % 256 < 192 then (argsV V).wq k ⟨n / 256 * 192 + n % 256 % 192, by omega⟩
        else if n.val % 256 < 224 then (argsV V).wq k ⟨n / 256 * 192 + (n % 256 - 32) % 192, by omega⟩
        else (argsV V).wq k ⟨n / 256 * 192 + (n % 256 - 96) % 192, by omega⟩ := by
  unfold argsV
  after_reads_at
  after_reads_at
  after_reads_at
  exact q_cols (fun z => (V (Proc.devRef .tc main_arg7) : S1x384x1536.Idx → EReal) (ix3 0 k z)) n

/-- The weights of the keys and values, the keys of all heads first. -/
theorem read_wkv (k : Fin 256) (n : Fin 2048) :
    (StableHlo.after (hostOps0 (F := Ideal)) V (Proc.devRef .tc main_v42) : S256x2048.Idx → EReal) (ix2 k n)
      = (argsV V).wkv k ⟨n % 1024 / 128 * 256 + n / 1024 * 128 + n % 128, by omega⟩ := by
  unfold argsV
  after_reads_at
  after_reads_at
  split_ifs <;> first
    | rfl
    | (exfalso; omega)
    | exact congrArg (fun z => (V (Proc.devRef .tc main_arg9) : S1x256x2048.Idx → EReal) (ix3 0 k z)) (Fin.ext (by dsimp only; omega))

/-- The key's rotary table. -/
theorem read_tabk (s : Fin 2048) (n : Fin 128) :
    (StableHlo.after (hostOps0 (F := Ideal)) V (Proc.devRef .tc main_v91) : S2048x128.Idx → EReal) (ix2 s n) = tabLane s n := by
  unfold tabLane angle
  after_reads_at
  after_reads_at

/-- The query's rotary table, scaled. -/
theorem read_tabq (s : Fin 2048) (n : Fin 128) :
    (StableHlo.after (hostOps0 (F := Ideal)) V (Proc.devRef .tc main_v97) : S2048x128.Idx → EReal) (ix2 s n) = tabLane s n * hostScale := by
  unfold tabLane angle hostScale
  after_reads_at
  after_reads_at

/-- The padded logarithms of the decay rates. -/
theorem read_alog (l : Fin 128) :
    (StableHlo.after (hostOps0 (F := Ideal)) V (Proc.devRef .tc main_v53) : S1x128.Idx → EReal) (ix2 0 l)
      = if h : l.val < 16 then (argsV V).alog ⟨l / 8, by omega⟩ ⟨l % 8, by omega⟩ else 0 := by
  unfold argsV
  after_reads_at

/-- The padded biases of the decays. -/
theorem read_dtb (l : Fin 128) :
    (StableHlo.after (hostOps0 (F := Ideal)) V (Proc.devRef .tc main_v57) : S1x128.Idx → EReal) (ix2 0 l)
      = if h : l.val < 16 then (argsV V).dtb ⟨l / 8, by omega⟩ ⟨l % 8, by omega⟩ else 0 := by
  unfold argsV
  after_reads_at

end Cert.Layer

end
-- ==== Proof.Scale.lean ====
/- The attention's scale as both programs compute it on the host. -/
module

public import proofs.«01_k».proof.Proof.Host

@[expose] public section

set_option maxRecDepth 16384

noncomputable section

namespace Cert.Layer

open Idealize.ShloMosaic

/-- The word of 192. -/
theorem ofBits_192 : Ideal.ofBits .f32 0x43400000#32 = ((192 : ℝ) : EReal) := by
  simp [Ideal.ofBits, Ideal.ieee, -EReal.coe_mul]
  norm_num

/-- The word of 2. -/
theorem ofBits_two : Ideal.ofBits .f32 0x40000000#32 = ((2 : ℝ) : EReal) := by
  simp [Ideal.ofBits, Ideal.ieee, -EReal.coe_mul]
  norm_num

/-- The root of 192 is the real one. -/
theorem sqrt_192 : Ideal.sqrt ((192 : ℝ) : EReal) = ((Real.sqrt 192 : ℝ) : EReal) := by
  rw [Ideal.sqrt_coe, if_neg (by norm_num)]

/-- The logarithm of 2 is the real one. -/
theorem log_two : Ideal.log ((2 : ℝ) : EReal) = ((Real.log 2 : ℝ) : EReal) := by
  rw [Ideal.log_coe, if_neg (by norm_num)]

/-- The reciprocal of a real that is not zero is the real one. -/
theorem one_div_coe (a : ℝ) (ha : a ≠ 0) : Ideal.div 1 (a : EReal) = ((a⁻¹ : ℝ) : EReal) := by
  unfold Ideal.div
  rw [if_neg (by exact_mod_cast ha), one_mul, ← EReal.coe_inv]

/-- The scale of the scores. -/
theorem score_scale : Ideal.div 1 (Ideal.sqrt (Ideal.ofBits .f32 0x43400000#32)) = (((Real.sqrt 192)⁻¹ : ℝ) : EReal) := by
  rw [ofBits_192, sqrt_192, one_div_coe _ (by positivity)]

/-- The scale folded into the queries' rotary tables. -/
theorem hostScale_eq : hostScale = (qScale : EReal) := by
  unfold hostScale
  rw [ofBits_192, ofBits_two, sqrt_192, log_two, ← EReal.coe_mul,
    one_div_coe _ (mul_ne_zero (by positivity) (Real.log_pos (by norm_num)).ne'), mul_inv]
  rfl

end Cert.Layer

end
-- ==== Proof.KernelValue.lean ====
/- What the kernels leave in their arrays, followed from one kernel to the next: the layer's values. -/
module

public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.SpecOut
public import proofs.«01_k».proof.Proof.HostTables
public import proofs.«01_k».proof.Proof.Scale

@[expose] public section

set_option maxRecDepth 16384

noncomputable section

namespace Cert.Layer

open Idealize.ShloMosaic Idealize.ShloMosaic.TcCoe Idealize.SL.Sem
open Cert.KernelIdeal Cert.KernelIdeal.Gen

variable (m : (ℓ : Loc nD τ Cert.KernelIdeal.sig) → Buf (Elt Ideal) ℓ) (ρ : Dev nD → PrngReg) (c : Dev nD)

/-- The layer's arguments as launched on device c. -/
abbrev argsAt : Args := argsV (W0 m ρ c)

/-- The buffers the kernels read that no kernel writes. -/
abbrev kept : List (Ref Cert.KernelIdeal.sig .tc) :=
  [main_v74, main_v44, main_v24, main_v47, main_v49, main_v34, main_v42, main_v97, main_v91, main_v53, main_v57, main_v45, main_v62, main_v64, main_v66, main_v68, main_v70, main_v72, main_v73, main_arg1, main_arg17]

/-- The first call writes none of the arrays that are kept. -/
theorem kept_in0 : ∀ a ∈ kept, ∀ w : Fin cfg0.W, Pipeline.arrRef spec0 w = a → (cfg0.win w).isOut = false :=
  ListAll.forall_mem_of_all_decide (by decide +kernel)

/-- The second call writes none of the arrays that are kept. -/
theorem kept_in1 : ∀ a ∈ kept, ∀ w : Fin cfg1.W, Pipeline.arrRef spec1 w = a → (cfg1.win w).isOut = false :=
  ListAll.forall_mem_of_all_decide (by decide +kernel)

/-- The third call writes none of the arrays that are kept. -/
theorem kept_in2 : ∀ a ∈ kept, ∀ w : Fin cfg2.W, Pipeline.arrRef spec2 w = a → (cfg2.win w).isOut = false :=
  ListAll.forall_mem_of_all_decide (by decide +kernel)

/-- The fourth call writes none of the arrays that are kept. -/
theorem kept_in3 : ∀ a ∈ kept, ∀ w : Fin cfg3.W, Pipeline.arrRef spec3 w = a → (cfg3.win w).isOut = false :=
  ListAll.forall_mem_of_all_decide (by decide +kernel)

/-- A kept array after the first call is as the host left it. -/
theorem W2_kept (r : Ref Cert.KernelIdeal.sig .tc) (h : r ∈ kept) :
    W2 m ρ c (Proc.devRef .tc r) = W1 m ρ c (Proc.devRef .tc r) :=
  W2_of m ρ c r (kept_in0 r h)

/-- A kept array after the second call is as the host left it. -/
theorem W3_kept (r : Ref Cert.KernelIdeal.sig .tc) (h : r ∈ kept) :
    W3 m ρ c (Proc.devRef .tc r) = W1 m ρ c (Proc.devRef .tc r) :=
  (W3_of m ρ c r (kept_in1 r h)).trans (W2_kept m ρ c r h)

/-- A kept array after the third call is as the host left it. -/
theorem W4_kept (r : Ref Cert.KernelIdeal.sig .tc) (h : r ∈ kept) :
    W4 m ρ c (Proc.devRef .tc r) = W1 m ρ c (Proc.devRef .tc r) :=
  (W4_of m ρ c r (kept_in2 r h)).trans (W3_kept m ρ c r h)

/-- A kept array after the fourth call is as the host left it. -/
theorem W5_kept (r : Ref Cert.KernelIdeal.sig .tc) (h : r ∈ kept) :
    W5 m ρ c (Proc.devRef .tc r) = W1 m ρ c (Proc.devRef .tc r) :=
  (W5_of m ρ c r (kept_in3 r h)).trans (W4_kept m ρ c r h)

/-! ## The projection -/

/-- After the first call its result holds the stacked projections. -/
theorem pz_2 (s : Fin 2) (t : Fin 65536) (n : Fin 3072) :
    (W2 m ρ c (Proc.devRef .tc main_v98) : S2x65536x3072.Idx → EReal) (ix3 s t n) = (argsAt m ρ c).pz s (bOf t) (sOf t) n :=
  (congrFun ((W2_arr m ρ c 3).trans (proj_arr (V1 m ρ) c)) (ix3 s t n)).trans
    (projArr_eq _ _ _ (fun t k => read_x2 (W0 m ρ c) t k) (fun k => read_again (W0 m ρ c) k) (fun g k n => read_wbig (W0 m ρ c) g k n) s t n)

theorem pz_3_of : W3 m ρ c (Proc.devRef .tc main_v98) = W2 m ρ c (Proc.devRef .tc main_v98) :=
  W3_of m ρ c main_v98 (by decide +kernel)

/-- They are still there after the second call. -/
theorem pz_3 (s : Fin 2) (t : Fin 65536) (n : Fin 3072) :
    (W3 m ρ c (Proc.devRef .tc main_v98) : S2x65536x3072.Idx → EReal) (ix3 s t n) = (argsAt m ρ c).pz s (bOf t) (sOf t) n :=
  (congrFun (pz_3_of m ρ c) (ix3 s t n)).trans (pz_2 m ρ c s t n)

theorem pz_4_of : W4 m ρ c (Proc.devRef .tc main_v98) = W3 m ρ c (Proc.devRef .tc main_v98) :=
  W4_of m ρ c main_v98 (by decide +kernel)

/-- They are still there after the third call. -/
theorem pz_4 (s : Fin 2) (t : Fin 65536) (n : Fin 3072) :
    (W4 m ρ c (Proc.devRef .tc main_v98) : S2x65536x3072.Idx → EReal) (ix3 s t n) = (argsAt m ρ c).pz s (bOf t) (sOf t) n :=
  (congrFun (pz_4_of m ρ c) (ix3 s t n)).trans (pz_3 m ρ c s t n)

theorem pz_5_of : W5 m ρ c (Proc.devRef .tc main_v98) = W4 m ρ c (Proc.devRef .tc main_v98) :=
  W5_of m ρ c main_v98 (by decide +kernel)

/-- They are still there after the fourth call. -/
theorem pz_5 (s : Fin 2) (t : Fin 65536) (n : Fin 3072) :
    (W5 m ρ c (Proc.devRef .tc main_v98) : S2x65536x3072.Idx → EReal) (ix3 s t n) = (argsAt m ρ c).pz s (bOf t) (sOf t) n :=
  (congrFun (pz_5_of m ρ c) (ix3 s t n)).trans (pz_4 m ρ c s t n)

theorem pz_6_of : W6 m ρ c (Proc.devRef .tc main_v98) = W5 m ρ c (Proc.devRef .tc main_v98) :=
  W6_of m ρ c main_v98 (by decide +kernel)

/-- They are still there at the end. -/
theorem pz_6 (s : Fin 2) (t : Fin 65536) (n : Fin 3072) :
    (W6 m ρ c (Proc.devRef .tc main_v98) : S2x65536x3072.Idx → EReal) (ix3 s t n) = (argsAt m ρ c).pz s (bOf t) (sOf t) n :=
  (congrFun (pz_6_of m ρ c) (ix3 s t n)).trans (pz_5 m ρ c s t n)

/-! ## The queries, keys, values and decays -/

/-- What the second call reads are the layer's arguments. -/
theorem reads_2 : Reads (argsAt m ρ c) (W2 m ρ c (Proc.devRef .tc main_v74)) (W2 m ρ c (Proc.devRef .tc main_v44))
    (W2 m ρ c (Proc.devRef .tc main_v24)) where
  hx t k := (congrFun (W2_kept m ρ c main_v74 (by decide)) (ix2 t k)).trans (read_x2 (W0 m ρ c) t k)
  hg k := (congrFun (W2_kept m ρ c main_v44 (by decide)) (ix2 0 k)).trans (read_again (W0 m ρ c) k)
  hw k n := (congrFun (W2_kept m ρ c main_v24 (by decide)) (ix2 k n)).trans (read_wsmall (W0 m ρ c) k n)

/-- The second call leaves the layer's queries, scaled. -/
theorem q_3 (r : Fin 65536) (h : Fin 8) (d : Fin 192) (n : Fin 2048) (hn : n.val = h * 256 + d) :
    (W3 m ρ c (Proc.devRef .tc main_v99_0) : S65536x2048.Idx → EReal) (ix2 r n)
      = (argsAt m ρ c).qf (bOf r) (sOf r) h d * (qScale : EReal) :=
  (congrFun ((W3_arr m ρ c 11).trans (q_arr (V2 m ρ) c)) (ix2 r n)).trans
    (qArr_eq (reads_2 m ρ c) _ _ _
      (fun k => (congrFun (W2_kept m ρ c main_v47 (by decide)) (ix2 0 k)).trans (read_qg (W0 m ρ c) k))
      (fun k n => (congrFun (W2_kept m ρ c main_v34 (by decide)) (ix2 k n)).trans (read_wq (W0 m ρ c) k n))
      (fun s n => ((congrFun (W2_kept m ρ c main_v97 (by decide)) (ix2 s n)).trans (read_tabq (W0 m ρ c) s n)).trans (congrArg (tabLane s n * ·) hostScale_eq))
      r h d n hn)

/-- The second call leaves the layer's keys. -/
theorem k_3 (r : Fin 65536) (h : Fin 8) (d : Fin 192) (n : Fin 2048) (hn : n.val = h * 256 + d) :
    (W3 m ρ c (Proc.devRef .tc main_v99_1) : S65536x2048.Idx → EReal) (ix2 r n) = (argsAt m ρ c).kf (bOf r) (sOf r) h d :=
  (congrFun ((W3_arr m ρ c 12).trans (k_arr (V2 m ρ) c)) (ix2 r n)).trans
    (kArr_eq (reads_2 m ρ c) _ _ _
      (fun k => (congrFun (W2_kept m ρ c main_v49 (by decide)) (ix2 0 k)).trans (read_kvg (W0 m ρ c) k))
      (fun k n => (congrFun (W2_kept m ρ c main_v42 (by decide)) (ix2 k n)).trans (read_wkv (W0 m ρ c) k n))
      (fun s n => (congrFun (W2_kept m ρ c main_v91 (by decide)) (ix2 s n)).trans (read_tabk (W0 m ρ c) s n))
      r h d n hn)

/-- The last 64 lanes of each head's keys are zero. -/
theorem k0_3 (r : Fin 65536) (n : Fin 2048) (hn : 192 ≤ n.val % 256) :
    (W3 m ρ c (Proc.devRef .tc main_v99_1) : S65536x2048.Idx → EReal) (ix2 r n) = (0 : EReal) :=
  (congrFun ((W3_arr m ρ c 12).trans (k_arr (V2 m ρ) c)) (ix2 r n)).trans (kArr_zero (reads_2 m ρ c) _ _ _ r n hn)

/-- The second call leaves the layer's values. -/
theorem v_3 (r : Fin 65536) (n : Fin 1024) :
    (W3 m ρ c (Proc.devRef .tc main_v99_2) : S65536x1024.Idx → EReal) (ix2 r n)
      = (argsAt m ρ c).kvv (bOf r) (sOf r) ⟨256 * (n / 128) + 128 + n % 128, by omega⟩ :=
  (congrFun ((W3_arr m ρ c 13).trans (v_arr (V2 m ρ) c)) (ix2 r n)).trans
    (vArr_eq (reads_2 m ρ c) _ _
      (fun k => (congrFun (W2_kept m ρ c main_v49 (by decide)) (ix2 0 k)).trans (read_kvg (W0 m ρ c) k))
      (fun k n => (congrFun (W2_kept m ρ c main_v42 (by decide)) (ix2 k n)).trans (read_wkv (W0 m ρ c) k n))
      r n)

/-- The second call leaves the summed decays and the betas. -/
theorem gb_3 (r : Fin 65536) (l : Fin 128) :
    (W3 m ρ c (Proc.devRef .tc main_v99_3) : S65536x128.Idx → EReal) (ix2 r l) = (argsAt m ρ c).gb (bOf r) (sOf r) l :=
  (congrFun ((W3_arr m ρ c 14).trans (gb_arr (V2 m ρ) c)) (ix2 r l)).trans
    (gbArr_eq (reads_2 m ρ c) _ _
      (fun l => (congrFun (W2_kept m ρ c main_v53 (by decide)) (ix2 0 l)).trans (read_alog (W0 m ρ c) l))
      (fun l => (congrFun (W2_kept m ρ c main_v57 (by decide)) (ix2 0 l)).trans (read_dtb (W0 m ρ c) l))
      r l)

theorem gb_6_of : W6 m ρ c (Proc.devRef .tc main_v99_3) = W3 m ρ c (Proc.devRef .tc main_v99_3) :=
  (W6_of m ρ c main_v99_3 (by decide +kernel)).trans ((W5_of m ρ c main_v99_3 (by decide +kernel)).trans
    (W4_of m ρ c main_v99_3 (by decide +kernel)))

/-- They are still there at the end. -/
theorem gb_6 (r : Fin 65536) (l : Fin 128) :
    (W6 m ρ c (Proc.devRef .tc main_v99_3) : S65536x128.Idx → EReal) (ix2 r l) = (argsAt m ρ c).gb (bOf r) (sOf r) l :=
  (congrFun (gb_6_of m ρ c) (ix2 r l)).trans (gb_3 m ρ c r l)

/-! ## The latent attention and the memory's keys and values -/

/-- The third call leaves the gated latent attention. -/
theorem attn_4 (r : Fin 65536) (n : Fin 1024) :
    (W4 m ρ c (Proc.devRef .tc main_v100) : S65536x1024.Idx → EReal) (ix2 r n) = (argsAt m ρ c).omla (bOf r) (sOf r) n :=
  (congrFun ((W4_arr m ρ c 4).trans (attn_arr (V3 m ρ) c)) (ix2 r n)).trans
    (attnArr_eq _ _ _ _ (q_3 m ρ c) (k_3 m ρ c) (k0_3 m ρ c) (v_3 m ρ c) (pz_3 m ρ c) r n)

/-- It is still there after the fourth call. -/
theorem attn_5 (r : Fin 65536) (n : Fin 1024) :
    (W5 m ρ c (Proc.devRef .tc main_v100) : S65536x1024.Idx → EReal) (ix2 r n) = (argsAt m ρ c).omla (bOf r) (sOf r) n :=
  (congrFun (W5_of m ρ c main_v100 (by decide +kernel)) (ix2 r n)).trans (attn_4 m ρ c r n)

/-- The memory is an argument. -/
theorem mem_1 (b : Fin 32) (j : Fin 256) (k : Fin 1024) :
    (W1 m ρ c (Proc.devRef .tc main_arg1) : S32x256x1024.Idx → EReal) (ix3 b j k) = (argsAt m ρ c).mem b j k :=
  congrFun (W1_of m ρ c main_arg1 (by decide)) (ix3 b j k)

/-- The fourth call leaves the memory's keys and values. -/
theorem mem_5 (b : Fin 32) (j : Fin 256) (n : Fin 1024) :
    (W5 m ρ c (Proc.devRef .tc main_v101) : S32x256x1024.Idx → EReal) (ix3 b j n) = (argsAt m ρ c).mkv b j n :=
  (congrFun ((W5_arr m ρ c 3).trans (mem_arr (V4 m ρ) c)) (ix3 b j n)).trans
    (memArr_eq _ _ _
      (fun b j k => (congrFun (W4_kept m ρ c main_arg1 (by decide)) (ix3 b j k)).trans (mem_1 m ρ c b j k))
      (fun k => (congrFun (W4_kept m ρ c main_v62 (by decide)) (ix2 0 k)).trans (read_mgain (W0 m ρ c) k))
      (fun k n => (congrFun (W4_kept m ρ c main_v64 (by decide)) (ix2 k n)).trans (read_wmem (W0 m ρ c) k n))
      b j n)

/-! ## The result -/

/-- The delta rule's output is an argument. -/
theorem og_1 (t : Fin 65536) (k : Fin 1024) :
    (W1 m ρ c (Proc.devRef .tc main_arg17) : S65536x1024.Idx → EReal) (ix2 t k) = (argsAt m ρ c).og t k :=
  congrFun (W1_of m ρ c main_arg17 (by decide)) (ix2 t k)

/-- What the last call reads are the layer's values. -/
theorem reads_5 : OutReads (argsAt m ρ c) (W5 m ρ c (Proc.devRef .tc main_v74)) (W5 m ρ c (Proc.devRef .tc main_v44))
    (W5 m ρ c (Proc.devRef .tc main_v45)) (W5 m ρ c (Proc.devRef .tc main_arg17)) (W5 m ρ c (Proc.devRef .tc main_v100))
    (W5 m ρ c (Proc.devRef .tc main_v98)) (W5 m ρ c (Proc.devRef .tc main_v101)) (W5 m ρ c (Proc.devRef .tc main_v66))
    (W5 m ρ c (Proc.devRef .tc main_v68)) (W5 m ρ c (Proc.devRef .tc main_v70)) (W5 m ρ c (Proc.devRef .tc main_v72))
    (W5 m ρ c (Proc.devRef .tc main_v73)) where
  hx t k := (congrFun (W5_kept m ρ c main_v74 (by decide)) (ix2 t k)).trans (read_x2 (W0 m ρ c) t k)
  hg k := (congrFun (W5_kept m ρ c main_v44 (by decide)) (ix2 0 k)).trans (read_again (W0 m ρ c) k)
  hw k n := (congrFun (W5_kept m ρ c main_v45 (by decide)) (ix2 k n)).trans (read_wgate (W0 m ρ c) k n)
  hog t k := (congrFun (W5_kept m ρ c main_arg17 (by decide)) (ix2 t k)).trans (og_1 m ρ c t k)
  hol := attn_5 m ρ c
  hz := pz_5 m ρ c
  hkv := mem_5 m ρ c
  hwbg k n := (congrFun (W5_kept m ρ c main_v66 (by decide)) (ix2 k n)).trans (read_wbg (W0 m ρ c) k n)
  hwbm k n := (congrFun (W5_kept m ρ c main_v68 (by decide)) (ix2 k n)).trans (read_wbm (W0 m ρ c) k n)
  hwbe k n := (congrFun (W5_kept m ρ c main_v70 (by decide)) (ix2 k n)).trans (read_wbe (W0 m ρ c) k n)
  hwo k n := (congrFun (W5_kept m ρ c main_v72 (by decide)) (ix2 k n)).trans (read_wo (W0 m ρ c) k n)
  hfg k := (congrFun (W5_kept m ρ c main_v73 (by decide)) (ix2 0 k)).trans (read_fgain (W0 m ρ c) k)

/-- The last call leaves the layer's result. -/
theorem y_6 (t : Fin 65536) (n : Fin 1024) :
    (W6 m ρ c (Proc.devRef .tc main_v102) : S65536x1024.Idx → EReal) (ix2 t n) = (argsAt m ρ c).y (bOf t) (sOf t) n :=
  (congrFun ((W6_arr m ρ c 12).trans (out_arr (V5 m ρ) c)) (ix2 t n)).trans (outArr_eq (reads_5 m ρ c) t n)

end Cert.Layer

end
-- ==== Proof.KernelRun.lean ====
/- The run of the kernels, ending with the contents their last one leaves. -/
module

public import proofs.«01_k».proof.Proof.Gen.KernelIdeal.Frame

@[expose] public section

set_option maxRecDepth 16384

noncomputable section

namespace Cert.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ Cert.KernelIdeal.sig) → Buf (Elt Ideal) ℓ) (ρ : Dev nD → PrngReg)

set_option backward.isDefEq.respectTransparency.types false in
/-- The kernels run and end with the results at the last boundary's contents, the arguments unchanged. -/
theorem kernel_run : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v102) = W6 m ρ c (Proc.devRef .tc main_v102)
      ∧ r.2.mem ((c.tc : Thread nD τ).loc main_v98) = W6 m ρ c (Proc.devRef .tc main_v98)
      ∧ r.2.mem ((c.tc : Thread nD τ).loc main_v99_3) = W6 m ρ c (Proc.devRef .tc main_v99_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v102 (by decide))),
       (h c _ (mem_uc main_v98 (by decide))),
       (h c _ (mem_uc main_v99_3 (by decide))),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c)⟩)

end Cert.Layer

end
-- ==== Proof.RefProj.lean ====
/- The reference's input projection. -/
module

public import proofs.«01_k».proof.Proof.Gen.ReferenceIdeal.Read
public import proofs.«01_k».proof.Proof.Layer
public import Idealize.ShloMosaic.Lib.Pointwise

@[expose] public section

set_option maxRecDepth 16384

noncomputable section

namespace Cert.Layer

open Idealize.ShloMosaic Idealize.ShloMosaic.TcCoe Idealize.SL.Sem
open Cert.ReferenceIdeal Cert.ReferenceIdeal.Gen Cert.ReferenceIdeal.Read

/-- The reference's arguments are the layer's. -/
structure RefArgs (A : Args)
  (x0 : FVec Ideal S32x2048x1024 .f32) (x1 : FVec Ideal S32x256x1024 .f32) (x2 : FVec Ideal S1x1024 .f32) (x3 : FVec Ideal S1x1024x9952 .f32) (x4 : FVec Ideal S1x2x8 .f32) (x5 : FVec Ideal S1x2x8 .f32)
  (x6 : FVec Ideal S1x384 .f32) (x7 : FVec Ideal S1x384x1536 .f32) (x8 : FVec Ideal S1x256 .f32) (x9 : FVec Ideal S1x256x2048 .f32) (x10 : FVec Ideal S1x1024 .f32) (x11 : FVec Ideal S1x1024x1024 .f32)
  (x12 : FVec Ideal S1x1024x1024 .f32) (x13 : FVec Ideal S1x1024x1024 .f32) (x14 : FVec Ideal S1x512x1024 .f32) (x15 : FVec Ideal S1x1024x1024 .f32) (x16 : FVec Ideal S1024 .f32) (x17 : FVec Ideal S65536x1024 .bf16) : Prop where
  x : ∀ (b : Fin 32) (s : Fin 2048) (k : Fin 1024), x0 (ix3 b s k) = A.x b s k
  mem : ∀ (b : Fin 32) (j : Fin 256) (k : Fin 1024), x1 (ix3 b j k) = A.mem b j k
  again : ∀ (k : Fin 1024), x2 (ix2 0 k) = A.again k
  win : ∀ (k : Fin 1024) (n : Fin 9952), x3 (ix3 0 k n) = A.win k n
  alog : ∀ (d : Fin 2) (h : Fin 8), x4 (ix3 0 d h) = A.alog d h
  dtb : ∀ (d : Fin 2) (h : Fin 8), x5 (ix3 0 d h) = A.dtb d h
  qg : ∀ (j : Fin 384), x6 (ix2 0 j) = A.qg j
  wq : ∀ (k : Fin 384) (n : Fin 1536), x7 (ix3 0 k n) = A.wq k n
  kvg : ∀ (j : Fin 256), x8 (ix2 0 j) = A.kvg j
  wkv : ∀ (k : Fin 256) (n : Fin 2048), x9 (ix3 0 k n) = A.wkv k n
  mgain : ∀ (k : Fin 1024), x10 (ix2 0 k) = A.mgain k
  wmem : ∀ (k n : Fin 1024), x11 (ix3 0 k n) = A.wmem k n
  wbg : ∀ (k n : Fin 1024), x12 (ix3 0 k n) = A.wbg k n
  wbm : ∀ (k n : Fin 1024), x13 (ix3 0 k n) = A.wbm k n
  wbe : ∀ (k : Fin 512) (n : Fin 1024), x14 (ix3 0 k n) = A.wbe k n
  wo : ∀ (k n : Fin 1024), x15 (ix3 0 k n) = A.wo k n
  fgain : ∀ (k : Fin 1024), x16 (ix1 k) = A.fgain k
  og : ∀ (t : Fin 65536) (k : Fin 1024), x17 (ix2 t k) = A.og t k

variable {A : Args}
  {x0 : FVec Ideal S32x2048x1024 .f32} {x1 : FVec Ideal S32x256x1024 .f32} {x2 : FVec Ideal S1x1024 .f32} {x3 : FVec Ideal S1x1024x9952 .f32} {x4 : FVec Ideal S1x2x8 .f32} {x5 : FVec Ideal S1x2x8 .f32}
  {x6 : FVec Ideal S1x384 .f32} {x7 : FVec Ideal S1x384x1536 .f32} {x8 : FVec Ideal S1x256 .f32} {x9 : FVec Ideal S1x256x2048 .f32} {x10 : FVec Ideal S1x1024 .f32} {x11 : FVec Ideal S1x1024x1024 .f32}
  {x12 : FVec Ideal S1x1024x1024 .f32} {x13 : FVec Ideal S1x1024x1024 .f32} {x14 : FVec Ideal S1x512x1024 .f32} {x15 : FVec Ideal S1x1024x1024 .f32} {x16 : FVec Ideal S1024 .f32} {x17 : FVec Ideal S65536x1024 .bf16}
  (R : RefArgs A x0 x1 x2 x3 x4 x5 x6 x7 x8 x9 x10 x11 x12 x13 x14 x15 x16 x17)
include R

/-- The normalised activations. -/
theorem ref_norm (b : Fin 32) (s : Fin 2048) (k : Fin 1024) :
    val_main_v13 (F := Ideal) x0 x2 (ix3 b s k) = rms n1024 (A.x b s) A.again k := by
  unfold rms
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [R.x, R.again]

/-- The combined projection. -/
theorem ref_prj (b : Fin 32) (s : Fin 2048) (n : Fin 9952) : val_main_v15 (F := Ideal) x0 x2 x3 (ix3 b s n) = A.prj b s n := by
  unfold Args.prj dotRms
  pointwise [val_main_v15, val_main_v14]
  simp only [ref_norm R, R.win]

end Cert.Layer

end
-- ==== Proof.RefMem.lean ====
/- The reference's attention into the memory. -/
module

public import proofs.«01_k».proof.Proof.RefProj

@[expose] public section

set_option maxRecDepth 16384

noncomputable section

namespace Cert.Layer

open Idealize.ShloMosaic Idealize.ShloMosaic.TcCoe Idealize.SL.Sem
open Cert.ReferenceIdeal Cert.ReferenceIdeal.Gen Cert.ReferenceIdeal.Read

/-- The programs' product is the extended reals'. -/
theorem mulf_mul (a b : EReal) : FloatOps.mulf (F := Ideal) (φ := .f32) a b = a * b := rfl

variable {A : Args}
  {x0 : FVec Ideal S32x2048x1024 .f32} {x1 : FVec Ideal S32x256x1024 .f32} {x2 : FVec Ideal S1x1024 .f32} {x3 : FVec Ideal S1x1024x9952 .f32} {x4 : FVec Ideal S1x2x8 .f32} {x5 : FVec Ideal S1x2x8 .f32}
  {x6 : FVec Ideal S1x384 .f32} {x7 : FVec Ideal S1x384x1536 .f32} {x8 : FVec Ideal S1x256 .f32} {x9 : FVec Ideal S1x256x2048 .f32} {x10 : FVec Ideal S1x1024 .f32} {x11 : FVec Ideal S1x1024x1024 .f32}
  {x12 : FVec Ideal S1x1024x1024 .f32} {x13 : FVec Ideal S1x1024x1024 .f32} {x14 : FVec Ideal S1x512x1024 .f32} {x15 : FVec Ideal S1x1024x1024 .f32} {x16 : FVec Ideal S1024 .f32} {x17 : FVec Ideal S65536x1024 .bf16}
  (R : RefArgs A x0 x1 x2 x3 x4 x5 x6 x7 x8 x9 x10 x11 x12 x13 x14 x15 x16 x17)
include R

/-- The normalised memory. -/
theorem ref_memnorm (b : Fin 32) (j : Fin 256) (k : Fin 1024) :
    val_main_v198 (F := Ideal) x1 x10 (ix3 b j k) = rms n1024 (A.mem b j) A.mgain k := by
  unfold rms
  pointwise [val_main_v198, val_main_v197, val_main_v196, val_main_v195, val_main_v194, val_main_v193, val_main_v192, val_main_v191, val_main_v190, val_main_v189, val_main_v188, val_main_v187, val_main_v186, val_main_v185, val_main_cst_18, val_main_cst_19, val_main_cst_20]
  simp only [R.mem, R.mgain]

/-- The memory's keys and values. -/
theorem ref_mkv (b : Fin 32) (j : Fin 256) (n : Fin 1024) :
    val_main_v200 (F := Ideal) x1 x10 x11 (ix3 b j n) = A.mkv b j n := by
  unfold Args.mkv dotRms
  pointwise [val_main_v200, val_main_v199]
  simp only [ref_memnorm R, R.wmem]

/-- The scaled scores. -/
theorem ref_mscore (b : Fin 32) (h : Fin 4) (s : Fin 2048) (j : Fin 256) :
    val_main_v208 (F := Ideal) x0 x1 x2 x3 x10 x11 (ix4 b h s j)
      = (∑ d : Fin 128, A.prj b s ⟨5856 + (h * 128 + d), by omega⟩ * A.mkv b j ⟨h * 128 + d, by omega⟩) * Ideal.ofBits .f32 0x3DB504F3#32 := by
  pointwise [val_main_v208, val_main_v207, val_main_v206, val_main_v205, val_main_v203, val_main_v201, val_main_v22, val_main_cst_21]
  simp only [ref_prj R, ref_mkv R]

/-- The exponentials of the scores less the row's maximum. -/
theorem ref_mweight (b : Fin 32) (h : Fin 4) (s : Fin 2048) (j : Fin 256) :
    val_main_v213 (F := Ideal) x0 x1 x2 x3 x10 x11 (ix4 b h s j)
      = Ideal.exp (val_main_v208 (F := Ideal) x0 x1 x2 x3 x10 x11 (ix4 b h s j)
        - Finset.univ.fold max (⊥ : EReal) fun j => val_main_v208 (F := Ideal) x0 x1 x2 x3 x10 x11 (ix4 b h s j)) := by
  pointwise [val_main_v213, val_main_v212, val_main_v211, val_main_v210, val_main_v209, val_main_cst_22]
  exact congrArg (fun z => Ideal.exp (_ - Finset.univ.fold max z _)) ofBits_neg_inf

/-- The exponentials times the values, summed over the memory. -/
theorem ref_mnum (b : Fin 32) (s : Fin 2048) (h : Fin 4) (d : Fin 128) :
    val_main_v215 (F := Ideal) x0 x1 x2 x3 x10 x11 (ix4 b s h d)
      = ∑ j : Fin 256, val_main_v213 (F := Ideal) x0 x1 x2 x3 x10 x11 (ix4 b h s j) * A.mkv b j ⟨512 + (h * 128 + d), by omega⟩ := by
  pointwise [val_main_v215, val_main_v214, val_main_v204, val_main_v202]
  simp only [ref_mkv R, mul_comm (A.mkv _ _ _)]

/-- The exponentials summed over the memory. -/
theorem ref_mden (b : Fin 32) (s : Fin 2048) (h : Fin 4) :
    val_main_v217 (F := Ideal) x0 x1 x2 x3 x10 x11 (ix3 b s h)
      = ∑ j : Fin 256, val_main_v213 (F := Ideal) x0 x1 x2 x3 x10 x11 (ix4 b h s j) := by
  pointwise [val_main_v217, val_main_v216, val_main_cst_23]

/-- The silu of the gate. -/
theorem ref_msilu (b : Fin 32) (s : Fin 2048) (n : Fin 512) :
    val_main_v222 (F := Ideal) x0 x2 x3 (ix3 b s n) = silu (A.prj b s ⟨6368 + n, by omega⟩) := by
  unfold silu logistic
  pointwise [val_main_v222, val_main_v23, val_main_call2_v5, val_main_call2_v4, val_main_call2_v3, val_main_call2_v2, val_main_call2_v1, val_main_call2_v0, val_main_call2_cst, val_main_call2_cst_0]
  simp only [ref_prj R]

/-- The heads put side by side. -/
theorem ref_mlanes (b : Fin 32) (s : Fin 2048) (n : Fin 512) :
    val_main_v221 (F := Ideal) x0 x1 x2 x3 x10 x11 (ix3 b s n)
      = val_main_v220 (F := Ideal) x0 x1 x2 x3 x10 x11 (ix4 b s ⟨n / 128, by omega⟩ ⟨n % 128, by omega⟩) := by
  pointwise [val_main_v221]

/-- The division by the sum of the exponentials. -/
theorem ref_mquot (b : Fin 32) (s : Fin 2048) (h : Fin 4) (d : Fin 128) :
    val_main_v220 (F := Ideal) x0 x1 x2 x3 x10 x11 (ix4 b s h d)
      = Ideal.div (val_main_v215 (F := Ideal) x0 x1 x2 x3 x10 x11 (ix4 b s h d)) (val_main_v217 (F := Ideal) x0 x1 x2 x3 x10 x11 (ix3 b s h)) := by
  pointwise [val_main_v220, val_main_v219, val_main_v218]

/-- The product with the gate. -/
theorem ref_mgated (b : Fin 32) (s : Fin 2048) (n : Fin 512) :
    val_main_v223 (F := Ideal) x0 x1 x2 x3 x10 x11 (ix3 b s n)
      = val_main_v221 (F := Ideal) x0 x1 x2 x3 x10 x11 (ix3 b s n)
        * val_main_v222 (F := Ideal) x0 x2 x3 (ix3 b s n) := by
  exact (val_main_v223_apply ..).trans (mulf_mul _ _)

/-- The reference's attention into the memory is the layer's. -/
theorem ref_omem (b : Fin 32) (s : Fin 2048) (n : Fin 512) :
    val_main_v223 (F := Ideal) x0 x1 x2 x3 x10 x11 (ix3 b s n) = A.omem b s n := by
  have e : ∀ h : 512 + (n.val / 128 * 128 + n.val % 128) < 1024,
      (⟨512 + (n.val / 128 * 128 + n.val % 128), h⟩ : Fin 1024) = ⟨512 + n, by omega⟩ := fun h => Fin.ext (by dsimp only; omega)
  unfold Args.omem attn
  rw [ref_mgated R, ref_mlanes R, ref_mquot R, ref_mnum R, ref_mden R, ref_msilu R]
  simp only [ref_mweight R, ref_mscore R, e]

end Cert.Layer

end
-- ==== Proof.RefAttn.lean ====
/- The reference's latent attention. -/
module

public import proofs.«01_k».proof.Proof.RefMem
public import proofs.«01_k».proof.Proof.Scale

@[expose] public section

set_option maxRecDepth 16384

noncomputable section

namespace Cert.Layer

open Idealize.ShloMosaic Idealize.ShloMosaic.TcCoe Idealize.SL.Sem
open Cert.ReferenceIdeal Cert.ReferenceIdeal.Gen Cert.ReferenceIdeal.Read

/-- The first half of a rotation, read at equal places. -/
theorem turn_sub {N : ℕ} (f : Fin N → EReal) {i i' j j' : Fin N} (c s : EReal) (hi : i.val = i'.val) (hj : j.val = j'.val) :
    f i * c - f j * s = f i' * c - f j' * s := by
  rw [Fin.ext hi, Fin.ext hj]

/-- The second half of a rotation, read at equal places. -/
theorem turn_add {N : ℕ} (f : Fin N → EReal) {i i' j j' : Fin N} (c s : EReal) (hi : i.val = i'.val) (hj : j.val = j'.val) :
    f i * c + f j * s = f i' * c + f j' * s := by
  rw [Fin.ext hi, Fin.ext hj]

variable {A : Args}
  {x0 : FVec Ideal S32x2048x1024 .f32} {x1 : FVec Ideal S32x256x1024 .f32} {x2 : FVec Ideal S1x1024 .f32} {x3 : FVec Ideal S1x1024x9952 .f32} {x4 : FVec Ideal S1x2x8 .f32} {x5 : FVec Ideal S1x2x8 .f32}
  {x6 : FVec Ideal S1x384 .f32} {x7 : FVec Ideal S1x384x1536 .f32} {x8 : FVec Ideal S1x256 .f32} {x9 : FVec Ideal S1x256x2048 .f32} {x10 : FVec Ideal S1x1024 .f32} {x11 : FVec Ideal S1x1024x1024 .f32}
  {x12 : FVec Ideal S1x1024x1024 .f32} {x13 : FVec Ideal S1x1024x1024 .f32} {x14 : FVec Ideal S1x512x1024 .f32} {x15 : FVec Ideal S1x1024x1024 .f32} {x16 : FVec Ideal S1024 .f32} {x17 : FVec Ideal S65536x1024 .bf16}
  (R : RefArgs A x0 x1 x2 x3 x4 x5 x6 x7 x8 x9 x10 x11 x12 x13 x14 x15 x16 x17)
include R

/-- The normalised latent of the queries. -/
theorem ref_qlat (b : Fin 32) (s : Fin 2048) (k : Fin 384) :
    val_main_v74 (F := Ideal) x0 x2 x3 x6 (ix3 b s k) = rms n384 (fun i : Fin 384 => A.prj b s ⟨4128 + i, by omega⟩) A.qg k := by
  unfold rms
  pointwise [val_main_v74, val_main_v73, val_main_v72, val_main_v71, val_main_v70, val_main_v69, val_main_v68, val_main_v67, val_main_v66, val_main_v65, val_main_v64, val_main_v63, val_main_v62, val_main_v61, val_main_v19, val_main_cst_4, val_main_cst_5, val_main_cst_6]
  simp only [ref_prj R, R.qg]

/-- The queries before the rotation. -/
theorem ref_qv (b : Fin 32) (s : Fin 2048) (j : Fin 1536) :
    val_main_v76 (F := Ideal) x0 x2 x3 x6 x7 (ix3 b s j) = A.qv b s j := by
  unfold Args.qv dotRms
  pointwise [val_main_v76, val_main_v75]
  simp only [ref_qlat R, R.wq]

/-- The normalised latent of the keys and values. -/
theorem ref_kvlat (b : Fin 32) (s : Fin 2048) (k : Fin 256) :
    val_main_v95 (F := Ideal) x0 x2 x3 x8 (ix3 b s k) = rms n256 (fun i : Fin 256 => A.prj b s ⟨4512 + i, by omega⟩) A.kvg k := by
  unfold rms
  pointwise [val_main_v95, val_main_v94, val_main_v93, val_main_v92, val_main_v91, val_main_v90, val_main_v89, val_main_v88, val_main_v87, val_main_v86, val_main_v85, val_main_v84, val_main_v83, val_main_v82, val_main_v80, val_main_v20, val_main_cst_7, val_main_cst_8, val_main_cst_9]
  simp only [ref_prj R, R.kvg]

/-- The keys and values. -/
theorem ref_kvv (b : Fin 32) (s : Fin 2048) (j : Fin 2048) :
    val_main_v97 (F := Ideal) x0 x2 x3 x8 x9 (ix3 b s j) = A.kvv b s j := by
  unfold Args.kvv dotRms
  pointwise [val_main_v97, val_main_v96]
  simp only [ref_kvlat R, R.wkv]

/-- The queries with their rotated lanes. -/
theorem ref_qf (b : Fin 32) (s : Fin 2048) (h : Fin 8) (d : Fin 192) :
    val_main_v131 (F := Ideal) x0 x2 x3 x6 x7 (ix4 b s h d) = A.qf b s h d := by
  unfold Args.qf rope angle
  pointwise [val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v79, val_main_v78, val_main_v77, val_main_cst_10, val_main_cst_11]
  simp only [ref_qv R]
  refine dite_congr rfl (fun _ => congrArg (A.qv b s) (Fin.ext (by dsimp only; omega))) fun _ => dite_congr rfl (fun _ => ?_) fun _ => ?_
  · exact turn_sub (A.qv b s) _ _ (by dsimp only; omega) (by dsimp only; omega)
  · exact turn_add (A.qv b s) _ _ (by dsimp only; omega) (by dsimp only; omega)

/-- The keys with the shared rotated lanes. -/
theorem ref_kf (b : Fin 32) (s : Fin 2048) (h : Fin 8) (d : Fin 192) :
    val_main_v164 (F := Ideal) x0 x2 x3 x8 x9 (ix4 b s h d) = A.kf b s h d := by
  unfold Args.kf rope angle
  pointwise [val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v99, val_main_v98, val_main_v81, val_main_v20, val_main_cst_12, val_main_cst_13]
  simp only [ref_kvv R, ref_prj R]
  refine dite_congr rfl (fun _ => congrArg (A.kvv b s) (Fin.ext (by dsimp only; omega))) fun _ => dite_congr rfl (fun _ => ?_) fun _ => ?_
  · exact turn_sub (A.prj b s) _ _ (by dsimp only; omega) (by dsimp only; omega)
  · exact turn_add (A.prj b s) _ _ (by dsimp only; omega) (by dsimp only; omega)

/-- The scaled scores. -/
theorem ref_score (b : Fin 32) (h : Fin 8) (s j : Fin 2048) :
    val_main_v169 (F := Ideal) x0 x2 x3 x6 x7 x8 x9 (ix4 b h s j)
      = (∑ d : Fin 192, A.qf b s h d * A.kf b j h d) * (((Real.sqrt 192)⁻¹ : ℝ) : EReal) := by
  pointwise [val_main_v169, val_main_v168, val_main_v167, val_main_v166, val_main_v165, val_main_cst_14, val_main_cst_15]
  simp only [ref_qf R, ref_kf R]
  exact congrArg (_ * ·) score_scale

/-- The exponentials of the scores less the row's maximum. -/
theorem ref_weight (b : Fin 32) (h : Fin 8) (s j : Fin 2048) :
    val_main_v174 (F := Ideal) x0 x2 x3 x6 x7 x8 x9 (ix4 b h s j)
      = Ideal.exp (val_main_v169 (F := Ideal) x0 x2 x3 x6 x7 x8 x9 (ix4 b h s j)
        - Finset.univ.fold max (⊥ : EReal) fun j => val_main_v169 (F := Ideal) x0 x2 x3 x6 x7 x8 x9 (ix4 b h s j)) := by
  pointwise [val_main_v174, val_main_v173, val_main_v172, val_main_v171, val_main_v170, val_main_cst_16]
  exact congrArg (fun z => Ideal.exp (_ - Finset.univ.fold max z _)) ofBits_neg_inf

/-- The exponentials times the values, summed over the keys. -/
theorem ref_num (b : Fin 32) (s : Fin 2048) (h : Fin 8) (d : Fin 128) :
    val_main_v176 (F := Ideal) x0 x2 x3 x6 x7 x8 x9 (ix4 b s h d)
      = ∑ j : Fin 2048, val_main_v174 (F := Ideal) x0 x2 x3 x6 x7 x8 x9 (ix4 b h s j) * A.kvv b j ⟨h * 256 + (128 + d), by omega⟩ := by
  pointwise [val_main_v176, val_main_v175, val_main_v100, val_main_v98]
  simp only [ref_kvv R, mul_comm (A.kvv _ _ _)]

/-- The exponentials summed over the keys. -/
theorem ref_den (b : Fin 32) (s : Fin 2048) (h : Fin 8) :
    val_main_v178 (F := Ideal) x0 x2 x3 x6 x7 x8 x9 (ix3 b s h)
      = ∑ j : Fin 2048, val_main_v174 (F := Ideal) x0 x2 x3 x6 x7 x8 x9 (ix4 b h s j) := by
  pointwise [val_main_v178, val_main_v177, val_main_cst_17]

/-- The silu of the gate. -/
theorem ref_silu (b : Fin 32) (s : Fin 2048) (n : Fin 1024) :
    val_main_v183 (F := Ideal) x0 x2 x3 (ix3 b s n) = silu (A.prj b s ⟨4832 + n, by omega⟩) := by
  unfold silu logistic
  pointwise [val_main_v183, val_main_v21, val_main_call1_v5, val_main_call1_v4, val_main_call1_v3, val_main_call1_v2, val_main_call1_v1, val_main_call1_v0, val_main_call1_cst, val_main_call1_cst_0]
  simp only [ref_prj R]

/-- The heads put side by side. -/
theorem ref_lanes (b : Fin 32) (s : Fin 2048) (n : Fin 1024) :
    val_main_v182 (F := Ideal) x0 x2 x3 x6 x7 x8 x9 (ix3 b s n)
      = val_main_v181 (F := Ideal) x0 x2 x3 x6 x7 x8 x9 (ix4 b s ⟨n / 128, by omega⟩ ⟨n % 128, by omega⟩) := by
  pointwise [val_main_v182]

/-- The division by the sum of the exponentials. -/
theorem ref_quot (b : Fin 32) (s : Fin 2048) (h : Fin 8) (d : Fin 128) :
    val_main_v181 (F := Ideal) x0 x2 x3 x6 x7 x8 x9 (ix4 b s h d)
      = Ideal.div (val_main_v176 (F := Ideal) x0 x2 x3 x6 x7 x8 x9 (ix4 b s h d)) (val_main_v178 (F := Ideal) x0 x2 x3 x6 x7 x8 x9 (ix3 b s h)) := by
  pointwise [val_main_v181, val_main_v180, val_main_v179]

/-- The product with the gate. -/
theorem ref_gated (b : Fin 32) (s : Fin 2048) (n : Fin 1024) :
    val_main_v184 (F := Ideal) x0 x2 x3 x6 x7 x8 x9 (ix3 b s n)
      = val_main_v182 (F := Ideal) x0 x2 x3 x6 x7 x8 x9 (ix3 b s n)
        * val_main_v183 (F := Ideal) x0 x2 x3 (ix3 b s n) := by
  exact (val_main_v184_apply ..).trans (mulf_mul _ _)

/-- The reference's latent attention is the layer's. -/
theorem ref_omla (b : Fin 32) (s : Fin 2048) (n : Fin 1024) :
    val_main_v184 (F := Ideal) x0 x2 x3 x6 x7 x8 x9 (ix3 b s n) = A.omla b s n := by
  have e : ∀ h : n.val / 128 * 256 + (128 + n.val % 128) < 2048,
      (⟨n.val / 128 * 256 + (128 + n.val % 128), h⟩ : Fin 2048) = ⟨256 * (n / 128) + 128 + n % 128, by omega⟩ :=
    fun h => Fin.ext (by dsimp only; omega)
  unfold Args.omla attn
  rw [ref_gated R, ref_lanes R, ref_quot R, ref_num R, ref_den R, ref_silu R]
  simp only [ref_weight R, ref_score R, e]

end Cert.Layer

end
-- ==== Proof.RefOut.lean ====
/- The reference's gated merge and result. -/
module

public import proofs.«01_k».proof.Proof.RefAttn
public import proofs.«01_k».proof.Proof.RefMem

@[expose] public section

set_option maxRecDepth 16384

noncomputable section

namespace Cert.Layer

open Idealize.ShloMosaic Idealize.ShloMosaic.TcCoe Idealize.SL.Sem
open Cert.ReferenceIdeal Cert.ReferenceIdeal.Gen Cert.ReferenceIdeal.Read

variable {A : Args}
  {x0 : FVec Ideal S32x2048x1024 .f32} {x1 : FVec Ideal S32x256x1024 .f32} {x2 : FVec Ideal S1x1024 .f32} {x3 : FVec Ideal S1x1024x9952 .f32} {x4 : FVec Ideal S1x2x8 .f32} {x5 : FVec Ideal S1x2x8 .f32}
  {x6 : FVec Ideal S1x384 .f32} {x7 : FVec Ideal S1x384x1536 .f32} {x8 : FVec Ideal S1x256 .f32} {x9 : FVec Ideal S1x256x2048 .f32} {x10 : FVec Ideal S1x1024 .f32} {x11 : FVec Ideal S1x1024x1024 .f32}
  {x12 : FVec Ideal S1x1024x1024 .f32} {x13 : FVec Ideal S1x1024x1024 .f32} {x14 : FVec Ideal S1x512x1024 .f32} {x15 : FVec Ideal S1x1024x1024 .f32} {x16 : FVec Ideal S1024 .f32} {x17 : FVec Ideal S65536x1024 .bf16}
  (R : RefArgs A x0 x1 x2 x3 x4 x5 x6 x7 x8 x9 x10 x11 x12 x13 x14 x15 x16 x17)
include R

/-- The gated merge. -/
theorem ref_merged (b : Fin 32) (s : Fin 2048) (n : Fin 1024) :
    val_main_v249 (F := Ideal) x0 x1 x2 x3 x6 x7 x8 x9 x10 x11 x12 x13 x14 x17 (ix3 b s n) = A.merged b s n := by
  have e1 : ∀ h : 6880 + (1024 + n.val) < 9952, (⟨6880 + (1024 + n.val), h⟩ : Fin 9952) = ⟨7904 + n, by omega⟩ :=
    fun h => Fin.ext (by dsimp only; omega)
  have e2 : ∀ h : 6880 + (2048 + n.val) < 9952, (⟨6880 + (2048 + n.val), h⟩ : Fin 9952) = ⟨8928 + n, by omega⟩ :=
    fun h => Fin.ext (by dsimp only; omega)
  have e3 : ∀ h : b.val * 2048 + s.val < 65536, (⟨b.val * 2048 + s.val, h⟩ : Fin 65536) = ⟨2048 * b + s, by omega⟩ :=
    fun h => Fin.ext (by dsimp only; omega)
  unfold Args.merged logistic
  pointwise [val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v228, val_main_v227, val_main_v226, val_main_v225, val_main_v224, val_main_v24, val_main_cst_24, val_main_cst_25]
  simp only [ref_prj R, ref_omla R, ref_omem R, R.wbg, R.wbm, R.wbe, R.og]
  simp only [e1, e2, e3]

/-- The residual plus the projected merge. -/
theorem ref_resid (b : Fin 32) (s : Fin 2048) (n : Fin 1024) :
    val_main_v252 (F := Ideal) x0 x1 x2 x3 x6 x7 x8 x9 x10 x11 x12 x13 x14 x15 x17 (ix3 b s n)
      = A.x b s n + ∑ k : Fin 1024, A.merged b s k * A.wo k n := by
  pointwise [val_main_v252, val_main_v251, val_main_v250]
  simp only [ref_merged R, R.wo, R.x]

/-- The reference's result is the layer's. -/
theorem ref_y (t : Fin 65536) (n : Fin 1024) :
    val_main_v281 (F := Ideal) x0 x1 x2 x3 x6 x7 x8 x9 x10 x11 x12 x13 x14 x15 x16 x17 (ix2 t n) = A.y (bOf t) (sOf t) n := by
  unfold Args.y rms
  pointwise [val_main_v281, val_main_v265, val_main_v264, val_main_v263, val_main_v262, val_main_v261, val_main_v260, val_main_v259, val_main_v258, val_main_v257, val_main_v256, val_main_v255, val_main_v254, val_main_v253, val_main_cst_26, val_main_cst_27, val_main_cst_28]
  simp only [ref_resid R, R.fgain]
  rfl

end Cert.Layer

end
-- ==== Proof.RefGb.lean ====
/- The reference's stacked projection, decays and betas. -/
module

public import proofs.«01_k».proof.Proof.RefProj

@[expose] public section

set_option maxRecDepth 16384

noncomputable section

namespace Cert.Layer

open Idealize.ShloMosaic Idealize.ShloMosaic.TcCoe Idealize.SL.Sem
open Cert.ReferenceIdeal Cert.ReferenceIdeal.Gen Cert.ReferenceIdeal.Read

/-- The 0/1 matrix of the rows up to a row. -/
theorem upto_eq (x i : ℕ) (hx : x < 64) (hi : i < 64) :
    (FloatOps.uitofp (F := Ideal) .f32 (IntOp.cmpi .sle (BitVec.ofNat 32 x) (BitVec.ofNat 32 i)) : EReal) = if x ≤ i then 1 else 0 := by
  have h : ∀ x i : Fin 64, IntOp.cmpi .sle (BitVec.ofNat 32 x) (BitVec.ofNat 32 i) = if (x : ℕ) ≤ (i : ℕ) then 1#1 else 0#1 := by
    decide +kernel
  rw [h ⟨x, hx⟩ ⟨i, hi⟩]
  dsimp only
  split_ifs <;> simp [FloatOps.uitofp]

variable {A : Args}
  {x0 : FVec Ideal S32x2048x1024 .f32} {x1 : FVec Ideal S32x256x1024 .f32} {x2 : FVec Ideal S1x1024 .f32} {x3 : FVec Ideal S1x1024x9952 .f32} {x4 : FVec Ideal S1x2x8 .f32} {x5 : FVec Ideal S1x2x8 .f32}
  {x6 : FVec Ideal S1x384 .f32} {x7 : FVec Ideal S1x384x1536 .f32} {x8 : FVec Ideal S1x256 .f32} {x9 : FVec Ideal S1x256x2048 .f32} {x10 : FVec Ideal S1x1024 .f32} {x11 : FVec Ideal S1x1024x1024 .f32}
  {x12 : FVec Ideal S1x1024x1024 .f32} {x13 : FVec Ideal S1x1024x1024 .f32} {x14 : FVec Ideal S1x512x1024 .f32} {x15 : FVec Ideal S1x1024x1024 .f32} {x16 : FVec Ideal S1024 .f32} {x17 : FVec Ideal S65536x1024 .bf16}
  (R : RefArgs A x0 x1 x2 x3 x4 x5 x6 x7 x8 x9 x10 x11 x12 x13 x14 x15 x16 x17)
include R

/-- The stacked projections. -/
theorem ref_pz (g : Fin 2) (t : Fin 65536) (n : Fin 3072) :
    val_main_v275 (F := Ideal) x0 x2 x3 (ix3 g t n) = A.pz g (bOf t) (sOf t) n := by
  unfold Args.pz
  pointwise [val_main_v275, val_main_v274, val_main_v273, val_main_v272, val_main_v271, val_main_v270, val_main_v269, val_main_v268, val_main_v267, val_main_v266, val_main_v23, val_main_v22, val_main_v21, val_main_v18, val_main_v16]
  simp only [ref_prj R]
  exact big_cols (A.prj (bOf t) (sOf t)) g n

/-- The decays. -/
theorem ref_dec (b : Fin 32) (s : Fin 2048) (d : Fin 2) (h : Fin 8) :
    val_main_v37 (F := Ideal) x0 x2 x3 x4 x5 (ix4 b s d h) = A.dec b s d h := by
  unfold Args.dec softplus
  pointwise [val_main_v37, val_main_v36, val_main_v35, val_main_v34, val_main_v33, val_main_v32, val_main_v31, val_main_v30, val_main_v29, val_main_v28, val_main_v27, val_main_v26, val_main_v25, val_main_v17, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst]
  simp only [ref_prj R, R.alog, R.dtb]
  have e : (⟨3072 + (d.val * 8 + h.val), by omega⟩ : Fin 9952) = ⟨3072 + 8 * d + h, by omega⟩ := Fin.ext (by dsimp only; omega)
  rw [e]
  generalize A.prj b s _ + A.dtb d h = z
  rw [if_neg (by simp)]
  rfl

/-- The decays summed from the chunk's first row on. -/
theorem ref_back (t : Fin 65536) (h : Fin 8) :
    val_main_v276 (F := Ideal) x0 x2 x3 x4 x5 (ix2 t h)
      = ∑ j : Fin 64, A.dec (bOf t) ⟨(sOf t).val / 64 * 64 + j, by omega⟩ 0 h * (if (j : ℕ) ≤ (sOf t).val % 64 then 1 else 0) := by
  have hs : (sOf t).val % 64 = t.val % 64 := by show t.val % 2048 % 64 = _; omega
  pointwise [val_main_v276, val_main_v56, val_main_v55, val_main_v54, val_main_v53, val_main_v52, val_main_v51, val_main_v50, val_main_v49, val_main_v48, val_main_v47, val_main_v46, val_main_v45]
  simp only [ref_dec R, hs]
  refine Finset.sum_congr rfl fun j _ => ?_
  refine (mul_comm _ _).trans (congrArg₂ (fun u v : EReal => u * v) ?_ (upto_eq j (t.val % 64) (by omega) (by omega)))
  refine congrArg₂ (fun u v => A.dec u v 0 h) (Fin.ext ?_) (Fin.ext ?_)
  · rfl
  · show t.val / 64 % 32 * 64 + j.val = t.val % 2048 / 64 * 64 + j.val
    omega

/-- The decays summed up to the chunk's last row. -/
theorem ref_ahead (t : Fin 65536) (h : Fin 8) :
    val_main_v277 (F := Ideal) x0 x2 x3 x4 x5 (ix2 t h)
      = ∑ j : Fin 64, A.dec (bOf t) ⟨(sOf t).val / 64 * 64 + j, by omega⟩ 1 h * (if (sOf t).val % 64 ≤ (j : ℕ) then 1 else 0) := by
  have hs : (sOf t).val % 64 = t.val % 64 := by show t.val % 2048 % 64 = _; omega
  pointwise [val_main_v277, val_main_v60, val_main_v59, val_main_v58, val_main_v57, val_main_v52, val_main_v51, val_main_v50, val_main_v49, val_main_v48, val_main_v47, val_main_v46, val_main_v45]
  simp only [ref_dec R, hs]
  refine Finset.sum_congr rfl fun j _ => ?_
  refine (mul_comm _ _).trans (congrArg₂ (fun u v : EReal => u * v) ?_ (upto_eq (t.val % 64) j (by omega) (by omega)))
  refine congrArg₂ (fun u v => A.dec u v 1 h) (Fin.ext ?_) (Fin.ext ?_)
  · rfl
  · show t.val / 64 % 32 * 64 + j.val = t.val % 2048 / 64 * 64 + j.val
    omega

/-- The reference's decays and betas are the layer's. -/
theorem ref_gb (t : Fin 65536) (l : Fin 128) :
    val_main_v280 (F := Ideal) x0 x2 x3 x4 x5 (ix2 t l) = A.gb (bOf t) (sOf t) l := by
  pointwise [val_main_v280, val_main_v279, val_main_v278, val_main_cst_2, val_main_cst_3, val_main_cst_29, val_main_v44, val_main_v43, val_main_v42, val_main_v41, val_main_v40, val_main_v39, val_main_v38, val_main_v25, val_main_v17]
  simp only [ref_prj R, ref_back R, ref_ahead R]
  unfold Args.gb logistic
  by_cases h8 : l.val < 8
  · rw [dif_pos h8, dif_pos h8]
  · rw [dif_neg h8, dif_neg h8]
    by_cases h16 : l.val < 16
    · rw [dif_pos (by omega), dif_pos h16]
    · rw [dif_neg (by omega), dif_neg h16]
      by_cases h32 : l.val < 32
      · refine (dif_pos (show l.val - 8 - 8 < 16 by omega)).trans (Eq.trans ?_ (dif_pos h32).symm)
        refine congrArg (fun z : EReal => Ideal.div 1 (1 + Ideal.exp (-z))) (congrArg (A.prj (bOf t) (sOf t)) (Fin.ext ?_))
        dsimp only
        omega
      · exact (dif_neg (show ¬l.val - 8 - 8 < 16 by omega)).trans (by rw [dif_neg h32])

end Cert.Layer

end
-- ==== Proof.RefRun.lean ====
/- The reference's run: its three results are the layer's values of its arguments. -/
module

public import proofs.«01_k».proof.Proof.RefOut
public import proofs.«01_k».proof.Proof.RefGb
public import proofs.«01_k».proof.Proof.Gen.ReferenceIdeal.Run
public import proofs.«01_k».proof.Proof.Gen.ReferenceIdeal.Read

@[expose] public section

set_option maxRecDepth 16384

noncomputable section

namespace Cert.Layer

open Idealize.ShloMosaic Idealize.ShloMosaic.TcCoe Idealize.SL.Sem
open Cert.ReferenceIdeal Cert.ReferenceIdeal.Gen Cert.ReferenceIdeal.Read Cert.ReferenceIdeal.Value

variable (m : (ℓ : Loc nD τ Cert.ReferenceIdeal.sig) → Buf (Elt Ideal) ℓ) (ρ : Dev nD → PrngReg)

/-- The reference runs and ends with its stages' terms of the arguments, the arguments unchanged. -/
theorem ref_run : θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v281) = val_main_v281 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v275) = val_main_v275 (F := Ideal) (m ((c.tc : Thread nD τ).loc main_arg0)) (m ((c.tc : Thread nD τ).loc main_arg2)) (m ((c.tc : Thread nD τ).loc main_arg3))
      ∧ r.2.mem ((c.tc : Thread nD τ).loc main_v280) = val_main_v280 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run _ _ _).mono (fun _ h c => ⟨(h c).1.trans (val_main_v281_eq (StableHlo.launchContents m c)),
      (h c).2.1.trans (val_main_v275_eq (StableHlo.launchContents m c)),
      (h c).2.2.1.trans (val_main_v280_eq (StableHlo.launchContents m c)), (h c).2.2.2⟩) (run m ρ)

end Cert.Layer

end
-- ==== Proof.Algebraic.lean ====
/- Both programs' runs, with their results equal: each is the layer's value at every index. -/
module

public import proofs.«01_k».proof.Defs
public import proofs.«01_k».proof.Proof.KernelValue
public import proofs.«01_k».proof.Proof.KernelRun
public import proofs.«01_k».proof.Proof.RefRun

@[expose] public section

set_option maxRecDepth 16384

noncomputable section

namespace Cert.Layer

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two memories hold the same arguments on device c. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

/-- The reference's arguments are then the layer's. -/
theorem ref_args (hA : Agree m m' c) : RefArgs (argsAt m ρ c) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) where
  x b s k := congrFun hA.1 (ix3 b s k)
  mem b j k := congrFun hA.2.1 (ix3 b j k)
  again k := congrFun hA.2.2.1 (ix2 0 k)
  win k n := congrFun hA.2.2.2.1 (ix3 0 k n)
  alog d h := congrFun hA.2.2.2.2.1 (ix3 0 d h)
  dtb d h := congrFun hA.2.2.2.2.2.1 (ix3 0 d h)
  qg k := congrFun hA.2.2.2.2.2.2.1 (ix2 0 k)
  wq k n := congrFun hA.2.2.2.2.2.2.2.1 (ix3 0 k n)
  kvg k := congrFun hA.2.2.2.2.2.2.2.2.1 (ix2 0 k)
  wkv k n := congrFun hA.2.2.2.2.2.2.2.2.2.1 (ix3 0 k n)
  mgain k := congrFun hA.2.2.2.2.2.2.2.2.2.2.1 (ix2 0 k)
  wmem k n := congrFun hA.2.2.2.2.2.2.2.2.2.2.2.1 (ix3 0 k n)
  wbg k n := congrFun hA.2.2.2.2.2.2.2.2.2.2.2.2.1 (ix3 0 k n)
  wbm k n := congrFun hA.2.2.2.2.2.2.2.2.2.2.2.2.2.1 (ix3 0 k n)
  wbe k n := congrFun hA.2.2.2.2.2.2.2.2.2.2.2.2.2.2.1 (ix3 0 k n)
  wo k n := congrFun hA.2.2.2.2.2.2.2.2.2.2.2.2.2.2.2.1 (ix3 0 k n)
  fgain k := congrFun hA.2.2.2.2.2.2.2.2.2.2.2.2.2.2.2.2.1 (ix1 k)
  og t k := congrFun hA.2.2.2.2.2.2.2.2.2.2.2.2.2.2.2.2.2 (ix2 t k)

variable {m m' c}

/-- The two programs' results are the same. -/
theorem y_agree (h : Agree m m' c) :
    Cert.ReferenceIdeal.Read.val_main_v281 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      = Cert.KernelIdeal.Gen.W6 m ρ c (Proc.devRef .tc Cert.KernelIdeal.main_v102) := by
  funext i
  rw [eq_ix2 i]
  exact (ref_y (ref_args m ρ m' c h) (i 0) (i 1)).trans (y_6 m ρ c (i 0) (i 1)).symm

/-- The two programs' stacked projections are the same. -/
theorem pz_agree (h : Agree m m' c) :
    Cert.ReferenceIdeal.Read.val_main_v275 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      = Cert.KernelIdeal.Gen.W6 m ρ c (Proc.devRef .tc Cert.KernelIdeal.main_v98) := by
  funext i
  rw [eq_ix3 i]
  exact (ref_pz (ref_args m ρ m' c h) (i 0) (i 1) (i 2)).trans (pz_6 m ρ c (i 0) (i 1) (i 2)).symm

/-- The two programs' decays and betas are the same. -/
theorem gb_agree (h : Agree m m' c) :
    Cert.ReferenceIdeal.Read.val_main_v280 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      = Cert.KernelIdeal.Gen.W6 m ρ c (Proc.devRef .tc Cert.KernelIdeal.main_v99_3) := by
  funext i
  rw [eq_ix2 i]
  exact (ref_gb (ref_args m ρ m' c h) (i 0) (i 1)).trans (gb_6 m ρ c (i 0) (i 1)).symm

/-- The two programs end with equal results. -/
theorem algebraic : Cert.algebraic_KernelIdeal_ReferenceIdeal := fun m ρ m' ρ' _ h =>
  ⟨fun c => Cert.KernelIdeal.Gen.W6 m ρ c (Proc.devRef .tc Cert.KernelIdeal.main_v102),
   fun c => Cert.KernelIdeal.Gen.W6 m ρ c (Proc.devRef .tc Cert.KernelIdeal.main_v98),
   fun c => Cert.KernelIdeal.Gen.W6 m ρ c (Proc.devRef .tc Cert.KernelIdeal.main_v99_3),
   kernel_run m ρ,
   (θ_run _ _ _).mono (fun _ r c => ⟨(r c).1.trans (y_agree ρ (h c)), (r c).2.1.trans (pz_agree ρ (h c)),
     (r c).2.2.1.trans (gb_agree ρ (h c)), (r c).2.2.2⟩) (ref_run m' ρ')⟩

end Cert.Layer

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2.2.2, sem_eq_zero_of_no_sems (by decide) r.2⟩) (Cert.ReferenceIdeal.Value.run (F := Ideal) m ρ),
  ⟨IdealRules.named_const.statement Cert.KernelIdeal.κ "q_scale" .f32 0x3DD53B95#32 _ rfl,
   IdealRules.named_const.statement Cert.KernelIdeal.κ "neg_log2e" .f32 0xBFB8AA3B#32 _ rfl⟩,
  Cert.Layer.algebraic⟩

end Cert.Proof

end
